-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_ProjLn (m : (ℓ : Loc Cert.ProjLn.nD Cert.ProjLn.τ Cert.ProjLn.sig) → Buf (Elt Bits) ℓ) : Prop :=
  True

def Pre_ProjLnIdeal (m : (ℓ : Loc Cert.ProjLnIdeal.nD Cert.ProjLnIdeal.τ Cert.ProjLnIdeal.sig) → Buf (Elt Ideal) ℓ) : Prop :=
  True

def Pre_ProjLnRefIdeal (m : (ℓ : Loc Cert.ProjLnRefIdeal.nD Cert.ProjLnRefIdeal.τ Cert.ProjLnRefIdeal.sig) → Buf (Elt Ideal) ℓ) : Prop :=
  True

def Pre_XAttn (m : (ℓ : Loc Cert.XAttn.nD Cert.XAttn.τ Cert.XAttn.sig) → Buf (Elt Bits) ℓ) : Prop :=
  True

def Pre_XAttnIdeal (m : (ℓ : Loc Cert.XAttnIdeal.nD Cert.XAttnIdeal.τ Cert.XAttnIdeal.sig) → Buf (Elt Ideal) ℓ) : Prop :=
  True

def Pre_XAttnRefIdeal (m : (ℓ : Loc Cert.XAttnRefIdeal.nD Cert.XAttnRefIdeal.τ Cert.XAttnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_ProjLn [hProjLn : Cert.ProjLn.Facts] : Prop :=
  ∀ (m : (ℓ : Loc Cert.ProjLn.nD Cert.ProjLn.τ Cert.ProjLn.sig) → Buf (Elt Bits) ℓ) (g : Dev Cert.ProjLn.nD → PrngReg), Pre_ProjLn m →
    θ_run (Cert.ProjLn.defs (F := Bits)) (onTc (τ := Cert.ProjLn.τ) (Cert.ProjLn.main (F := Bits))) ⟨m, fun _ => 0, g⟩ (fun r => (∀ c : Dev Cert.ProjLn.nD,
      r.2.mem ((c.tc : Thread Cert.ProjLn.nD Cert.ProjLn.τ).loc Cert.ProjLn.main_arg0) = m ((c.tc : Thread Cert.ProjLn.nD Cert.ProjLn.τ).loc Cert.ProjLn.main_arg0)
      ∧ r.2.mem ((c.tc : Thread Cert.ProjLn.nD Cert.ProjLn.τ).loc Cert.ProjLn.main_arg1) = m ((c.tc : Thread Cert.ProjLn.nD Cert.ProjLn.τ).loc Cert.ProjLn.main_arg1)
      ∧ r.2.mem ((c.tc : Thread Cert.ProjLn.nD Cert.ProjLn.τ).loc Cert.ProjLn.main_arg2) = m ((c.tc : Thread Cert.ProjLn.nD Cert.ProjLn.τ).loc Cert.ProjLn.main_arg2)
      ∧ r.2.mem ((c.tc : Thread Cert.ProjLn.nD Cert.ProjLn.τ).loc Cert.ProjLn.main_arg3) = m ((c.tc : Thread Cert.ProjLn.nD Cert.ProjLn.τ).loc Cert.ProjLn.main_arg3)
      ∧ r.2.mem ((c.tc : Thread Cert.ProjLn.nD Cert.ProjLn.τ).loc Cert.ProjLn.main_arg4) = m ((c.tc : Thread Cert.ProjLn.nD Cert.ProjLn.τ).loc Cert.ProjLn.main_arg4))
      ∧ r.2.sem = fun _ => 0)

def quiescent_ProjLnIdeal [hProjLnIdeal : Cert.ProjLnIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg), Pre_ProjLnIdeal m →
    θ_run (Cert.ProjLnIdeal.defs (F := Ideal)) (onTc (τ := Cert.ProjLnIdeal.τ) (Cert.ProjLnIdeal.main (F := Ideal))) ⟨m, fun _ => 0, g⟩ (fun r => (∀ c : Dev Cert.ProjLnIdeal.nD,
      r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
      ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
      ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
      ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
      ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4))
      ∧ r.2.sem = fun _ => 0)

def quiescent_ProjLnRefIdeal [hProjLnRefIdeal : Cert.ProjLnRefIdeal.Facts] : Prop :=
  ∀ (m : (ℓ : Loc Cert.ProjLnRefIdeal.nD Cert.ProjLnRefIdeal.τ Cert.ProjLnRefIdeal.sig) → Buf (Elt Ideal) ℓ) (g : Dev Cert.ProjLnRefIdeal.nD → PrngReg), Pre_ProjLnRefIdeal m →
    θ_run (Cert.ProjLnRefIdeal.defs (F := Ideal)) (onTc (τ := Cert.ProjLnRefIdeal.τ) (Cert.ProjLnRefIdeal.main (F := Ideal))) ⟨m, fun _ => 0, g⟩ (fun r => (∀ c : Dev Cert.ProjLnRefIdeal.nD,
      r.2.mem ((c.tc : Thread Cert.ProjLnRefIdeal.nD Cert.ProjLnRefIdeal.τ).loc Cert.ProjLnRefIdeal.main_arg0) = m ((c.tc : Thread Cert.ProjLnRefIdeal.nD Cert.ProjLnRefIdeal.τ).loc Cert.ProjLnRefIdeal.main_arg0)
      ∧ r.2.mem ((c.tc : Thread Cert.ProjLnRefIdeal.nD Cert.ProjLnRefIdeal.τ).loc Cert.ProjLnRefIdeal.main_arg1) = m ((c.tc : Thread Cert.ProjLnRefIdeal.nD Cert.ProjLnRefIdeal.τ).loc Cert.ProjLnRefIdeal.main_arg1)
      ∧ r.2.mem ((c.tc : Thread Cert.ProjLnRefIdeal.nD Cert.ProjLnRefIdeal.τ).loc Cert.ProjLnRefIdeal.main_arg2) = m ((c.tc : Thread Cert.ProjLnRefIdeal.nD Cert.ProjLnRefIdeal.τ).loc Cert.ProjLnRefIdeal.main_arg2)
      ∧ r.2.mem ((c.tc : Thread Cert.ProjLnRefIdeal.nD Cert.ProjLnRefIdeal.τ).loc Cert.ProjLnRefIdeal.main_arg3) = m ((c.tc : Thread Cert.ProjLnRefIdeal.nD Cert.ProjLnRefIdeal.τ).loc Cert.ProjLnRefIdeal.main_arg3)
      ∧ r.2.mem ((c.tc : Thread Cert.ProjLnRefIdeal.nD Cert.ProjLnRefIdeal.τ).loc Cert.ProjLnRefIdeal.main_arg4) = m ((c.tc : Thread Cert.ProjLnRefIdeal.nD Cert.ProjLnRefIdeal.τ).loc Cert.ProjLnRefIdeal.main_arg4))
      ∧ r.2.sem = fun _ => 0)

def quiescent_XAttn [hXAttn : Cert.XAttn.Facts] : Prop :=
  ∀ (m : (ℓ : Loc Cert.XAttn.nD Cert.XAttn.τ Cert.XAttn.sig) → Buf (Elt Bits) ℓ) (g : Dev Cert.XAttn.nD → PrngReg), Pre_XAttn m →
    θ_run (Cert.XAttn.defs (F := Bits)) (onTc (τ := Cert.XAttn.τ) (Cert.XAttn.main (F := Bits))) ⟨m, fun _ => 0, g⟩ (fun r => (∀ c : Dev Cert.XAttn.nD,
      r.2.mem ((c.tc : Thread Cert.XAttn.nD Cert.XAttn.τ).loc Cert.XAttn.main_arg0) = m ((c.tc : Thread Cert.XAttn.nD Cert.XAttn.τ).loc Cert.XAttn.main_arg0)
      ∧ r.2.mem ((c.tc : Thread Cert.XAttn.nD Cert.XAttn.τ).loc Cert.XAttn.main_arg1) = m ((c.tc : Thread Cert.XAttn.nD Cert.XAttn.τ).loc Cert.XAttn.main_arg1)
      ∧ r.2.mem ((c.tc : Thread Cert.XAttn.nD Cert.XAttn.τ).loc Cert.XAttn.main_arg2) = m ((c.tc : Thread Cert.XAttn.nD Cert.XAttn.τ).loc Cert.XAttn.main_arg2)
      ∧ r.2.mem ((c.tc : Thread Cert.XAttn.nD Cert.XAttn.τ).loc Cert.XAttn.main_arg3) = m ((c.tc : Thread Cert.XAttn.nD Cert.XAttn.τ).loc Cert.XAttn.main_arg3)
      ∧ r.2.mem ((c.tc : Thread Cert.XAttn.nD Cert.XAttn.τ).loc Cert.XAttn.main_arg4) = m ((c.tc : Thread Cert.XAttn.nD Cert.XAttn.τ).loc Cert.XAttn.main_arg4)
      ∧ r.2.mem ((c.tc : Thread Cert.XAttn.nD Cert.XAttn.τ).loc Cert.XAttn.main_arg5) = m ((c.tc : Thread Cert.XAttn.nD Cert.XAttn.τ).loc Cert.XAttn.main_arg5)
      ∧ r.2.mem ((c.tc : Thread Cert.XAttn.nD Cert.XAttn.τ).loc Cert.XAttn.main_arg6) = m ((c.tc : Thread Cert.XAttn.nD Cert.XAttn.τ).loc Cert.XAttn.main_arg6)
      ∧ r.2.mem ((c.tc : Thread Cert.XAttn.nD Cert.XAttn.τ).loc Cert.XAttn.main_arg7) = m ((c.tc : Thread Cert.XAttn.nD Cert.XAttn.τ).loc Cert.XAttn.main_arg7))
      ∧ r.2.sem = fun _ => 0)

def quiescent_XAttnIdeal [hXAttnIdeal : Cert.XAttnIdeal.Facts] : Prop :=
  ∀ (m : (ℓ : Loc Cert.XAttnIdeal.nD Cert.XAttnIdeal.τ Cert.XAttnIdeal.sig) → Buf (Elt Ideal) ℓ) (g : Dev Cert.XAttnIdeal.nD → PrngReg), Pre_XAttnIdeal m →
    θ_run (Cert.XAttnIdeal.defs (F := Ideal)) (onTc (τ := Cert.XAttnIdeal.τ) (Cert.XAttnIdeal.main (F := Ideal))) ⟨m, fun _ => 0, g⟩ (fun r => (∀ c : Dev Cert.XAttnIdeal.nD,
      r.2.mem ((c.tc : Thread Cert.XAttnIdeal.nD Cert.XAttnIdeal.τ).loc Cert.XAttnIdeal.main_arg0) = m ((c.tc : Thread Cert.XAttnIdeal.nD Cert.XAttnIdeal.τ).loc Cert.XAttnIdeal.main_arg0)
      ∧ r.2.mem ((c.tc : Thread Cert.XAttnIdeal.nD Cert.XAttnIdeal.τ).loc Cert.XAttnIdeal.main_arg1) = m ((c.tc : Thread Cert.XAttnIdeal.nD Cert.XAttnIdeal.τ).loc Cert.XAttnIdeal.main_arg1)
      ∧ r.2.mem ((c.tc : Thread Cert.XAttnIdeal.nD Cert.XAttnIdeal.τ).loc Cert.XAttnIdeal.main_arg2) = m ((c.tc : Thread Cert.XAttnIdeal.nD Cert.XAttnIdeal.τ).loc Cert.XAttnIdeal.main_arg2)
      ∧ r.2.mem ((c.tc : Thread Cert.XAttnIdeal.nD Cert.XAttnIdeal.τ).loc Cert.XAttnIdeal.main_arg3) = m ((c.tc : Thread Cert.XAttnIdeal.nD Cert.XAttnIdeal.τ).loc Cert.XAttnIdeal.main_arg3)
      ∧ r.2.mem ((c.tc : Thread Cert.XAttnIdeal.nD Cert.XAttnIdeal.τ).loc Cert.XAttnIdeal.main_arg4) = m ((c.tc : Thread Cert.XAttnIdeal.nD Cert.XAttnIdeal.τ).loc Cert.XAttnIdeal.main_arg4)
      ∧ r.2.mem ((c.tc : Thread Cert.XAttnIdeal.nD Cert.XAttnIdeal.τ).loc Cert.XAttnIdeal.main_arg5) = m ((c.tc : Thread Cert.XAttnIdeal.nD Cert.XAttnIdeal.τ).loc Cert.XAttnIdeal.main_arg5)
      ∧ r.2.mem ((c.tc : Thread Cert.XAttnIdeal.nD Cert.XAttnIdeal.τ).loc Cert.XAttnIdeal.main_arg6) = m ((c.tc : Thread Cert.XAttnIdeal.nD Cert.XAttnIdeal.τ).loc Cert.XAttnIdeal.main_arg6)
      ∧ r.2.mem ((c.tc : Thread Cert.XAttnIdeal.nD Cert.XAttnIdeal.τ).loc Cert.XAttnIdeal.main_arg7) = m ((c.tc : Thread Cert.XAttnIdeal.nD Cert.XAttnIdeal.τ).loc Cert.XAttnIdeal.main_arg7))
      ∧ r.2.sem = fun _ => 0)

def quiescent_XAttnRefIdeal [hXAttnRefIdeal : Cert.XAttnRefIdeal.Facts] : Prop :=
  ∀ (m : (ℓ : Loc Cert.XAttnRefIdeal.nD Cert.XAttnRefIdeal.τ Cert.XAttnRefIdeal.sig) → Buf (Elt Ideal) ℓ) (g : Dev Cert.XAttnRefIdeal.nD → PrngReg), Pre_XAttnRefIdeal m →
    θ_run (Cert.XAttnRefIdeal.defs (F := Ideal)) (onTc (τ := Cert.XAttnRefIdeal.τ) (Cert.XAttnRefIdeal.main (F := Ideal))) ⟨m, fun _ => 0, g⟩ (fun r => (∀ c : Dev Cert.XAttnRefIdeal.nD,
      r.2.mem ((c.tc : Thread Cert.XAttnRefIdeal.nD Cert.XAttnRefIdeal.τ).loc Cert.XAttnRefIdeal.main_arg0) = m ((c.tc : Thread Cert.XAttnRefIdeal.nD Cert.XAttnRefIdeal.τ).loc Cert.XAttnRefIdeal.main_arg0)
      ∧ r.2.mem ((c.tc : Thread Cert.XAttnRefIdeal.nD Cert.XAttnRefIdeal.τ).loc Cert.XAttnRefIdeal.main_arg1) = m ((c.tc : Thread Cert.XAttnRefIdeal.nD Cert.XAttnRefIdeal.τ).loc Cert.XAttnRefIdeal.main_arg1)
      ∧ r.2.mem ((c.tc : Thread Cert.XAttnRefIdeal.nD Cert.XAttnRefIdeal.τ).loc Cert.XAttnRefIdeal.main_arg2) = m ((c.tc : Thread Cert.XAttnRefIdeal.nD Cert.XAttnRefIdeal.τ).loc Cert.XAttnRefIdeal.main_arg2)
      ∧ r.2.mem ((c.tc : Thread Cert.XAttnRefIdeal.nD Cert.XAttnRefIdeal.τ).loc Cert.XAttnRefIdeal.main_arg3) = m ((c.tc : Thread Cert.XAttnRefIdeal.nD Cert.XAttnRefIdeal.τ).loc Cert.XAttnRefIdeal.main_arg3)
      ∧ r.2.mem ((c.tc : Thread Cert.XAttnRefIdeal.nD Cert.XAttnRefIdeal.τ).loc Cert.XAttnRefIdeal.main_arg4) = m ((c.tc : Thread Cert.XAttnRefIdeal.nD Cert.XAttnRefIdeal.τ).loc Cert.XAttnRefIdeal.main_arg4)
      ∧ r.2.mem ((c.tc : Thread Cert.XAttnRefIdeal.nD Cert.XAttnRefIdeal.τ).loc Cert.XAttnRefIdeal.main_arg5) = m ((c.tc : Thread Cert.XAttnRefIdeal.nD Cert.XAttnRefIdeal.τ).loc Cert.XAttnRefIdeal.main_arg5)
      ∧ r.2.mem ((c.tc : Thread Cert.XAttnRefIdeal.nD Cert.XAttnRefIdeal.τ).loc Cert.XAttnRefIdeal.main_arg6) = m ((c.tc : Thread Cert.XAttnRefIdeal.nD Cert.XAttnRefIdeal.τ).loc Cert.XAttnRefIdeal.main_arg6)
      ∧ r.2.mem ((c.tc : Thread Cert.XAttnRefIdeal.nD Cert.XAttnRefIdeal.τ).loc Cert.XAttnRefIdeal.main_arg7) = m ((c.tc : Thread Cert.XAttnRefIdeal.nD Cert.XAttnRefIdeal.τ).loc Cert.XAttnRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v12_0)) (v1 : (c : Dev Cert.InProjIdeal.nD) → Buf (Elt Ideal) ((c.tc : Thread Cert.InProjIdeal.nD Cert.InProjIdeal.τ).loc Cert.InProjIdeal.main_v12_1)) (v2 : (c : Dev Cert.InProjIdeal.nD) → Buf (Elt Ideal) ((c.tc : Thread Cert.InProjIdeal.nD Cert.InProjIdeal.τ).loc Cert.InProjIdeal.main_v12_2)) (v3 : (c : Dev Cert.InProjIdeal.nD) → Buf (Elt Ideal) ((c.tc : Thread Cert.InProjIdeal.nD Cert.InProjIdeal.τ).loc Cert.InProjIdeal.main_v12_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v12_0) = v0 c
          ∧ r.2.mem ((c.tc : Thread Cert.InProjIdeal.nD Cert.InProjIdeal.τ).loc Cert.InProjIdeal.main_v12_1) = v1 c
          ∧ r.2.mem ((c.tc : Thread Cert.InProjIdeal.nD Cert.InProjIdeal.τ).loc Cert.InProjIdeal.main_v12_2) = v2 c
          ∧ r.2.mem ((c.tc : Thread Cert.InProjIdeal.nD Cert.InProjIdeal.τ).loc Cert.InProjIdeal.main_v12_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_v3) = v1 c
          ∧ r.2.mem ((c.tc : Thread Cert.InProjRefIdeal.nD Cert.InProjRefIdeal.τ).loc Cert.InProjRefIdeal.main_v4) = v2 c
          ∧ r.2.mem ((c.tc : Thread Cert.InProjRefIdeal.nD Cert.InProjRefIdeal.τ).loc Cert.InProjRefIdeal.main_v8) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_ProjLn_ProjLnIdeal : Prop :=
  True

def algebraic_ProjLnIdeal_ProjLnRefIdeal [hProjLnIdeal : Cert.ProjLnIdeal.Facts] [hProjLnRefIdeal : Cert.ProjLnRefIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg)
    (m' : (ℓ : Loc Cert.ProjLnRefIdeal.nD Cert.ProjLnRefIdeal.τ Cert.ProjLnRefIdeal.sig) → Buf (Elt Ideal) ℓ) (g' : Dev Cert.ProjLnRefIdeal.nD → PrngReg), Pre_ProjLnIdeal m →
    (∀ c : Dev Cert.ProjLnIdeal.nD,
      m' ((c.tc : Thread Cert.ProjLnRefIdeal.nD Cert.ProjLnRefIdeal.τ).loc Cert.ProjLnRefIdeal.main_arg0) = m ((c.tc : Thread Cert.ProjLnIdeal.nD Cert.ProjLnIdeal.τ).loc Cert.ProjLnIdeal.main_arg0)
      ∧ m' ((c.tc : Thread Cert.ProjLnRefIdeal.nD Cert.ProjLnRefIdeal.τ).loc Cert.ProjLnRefIdeal.main_arg1) = m ((c.tc : Thread Cert.ProjLnIdeal.nD Cert.ProjLnIdeal.τ).loc Cert.ProjLnIdeal.main_arg1)
      ∧ m' ((c.tc : Thread Cert.ProjLnRefIdeal.nD Cert.ProjLnRefIdeal.τ).loc Cert.ProjLnRefIdeal.main_arg2) = m ((c.tc : Thread Cert.ProjLnIdeal.nD Cert.ProjLnIdeal.τ).loc Cert.ProjLnIdeal.main_arg2)
      ∧ m' ((c.tc : Thread Cert.ProjLnRefIdeal.nD Cert.ProjLnRefIdeal.τ).loc Cert.ProjLnRefIdeal.main_arg3) = m ((c.tc : Thread Cert.ProjLnIdeal.nD Cert.ProjLnIdeal.τ).loc Cert.ProjLnIdeal.main_arg3)
      ∧ m' ((c.tc : Thread Cert.ProjLnRefIdeal.nD Cert.ProjLnRefIdeal.τ).loc Cert.ProjLnRefIdeal.main_arg4) = m ((c.tc : Thread Cert.ProjLnIdeal.nD Cert.ProjLnIdeal.τ).loc Cert.ProjLnIdeal.main_arg4)) →
    ∃ (v0 : (c : Dev Cert.ProjLnIdeal.nD) → Buf (Elt Ideal) ((c.tc : Thread Cert.ProjLnIdeal.nD Cert.ProjLnIdeal.τ).loc Cert.ProjLnIdeal.main_v3)),
      θ_run (Cert.ProjLnIdeal.defs (F := Ideal)) (onTc (τ := Cert.ProjLnIdeal.τ) (Cert.ProjLnIdeal.main (F := Ideal))) ⟨m, fun _ => 0, g⟩ (fun r => ∀ c : Dev Cert.ProjLnIdeal.nD,
          r.2.mem ((c.tc : Thread Cert.ProjLnIdeal.nD Cert.ProjLnIdeal.τ).loc Cert.ProjLnIdeal.main_v3) = v0 c
          ∧ r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
          ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
          ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
          ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
          ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4))
      ∧ θ_run (Cert.ProjLnRefIdeal.defs (F := Ideal)) (onTc (τ := Cert.ProjLnRefIdeal.τ) (Cert.ProjLnRefIdeal.main (F := Ideal))) ⟨m', fun _ => 0, g'⟩ (fun r => ∀ c : Dev Cert.ProjLnRefIdeal.nD,
          r.2.mem ((c.tc : Thread Cert.ProjLnRefIdeal.nD Cert.ProjLnRefIdeal.τ).loc Cert.ProjLnRefIdeal.main_v28) = v0 c
          ∧ r.2.mem ((c.tc : Thread Cert.ProjLnRefIdeal.nD Cert.ProjLnRefIdeal.τ).loc Cert.ProjLnRefIdeal.main_arg0) = m' ((c.tc : Thread Cert.ProjLnRefIdeal.nD Cert.ProjLnRefIdeal.τ).loc Cert.ProjLnRefIdeal.main_arg0)
          ∧ r.2.mem ((c.tc : Thread Cert.ProjLnRefIdeal.nD Cert.ProjLnRefIdeal.τ).loc Cert.ProjLnRefIdeal.main_arg1) = m' ((c.tc : Thread Cert.ProjLnRefIdeal.nD Cert.ProjLnRefIdeal.τ).loc Cert.ProjLnRefIdeal.main_arg1)
          ∧ r.2.mem ((c.tc : Thread Cert.ProjLnRefIdeal.nD Cert.ProjLnRefIdeal.τ).loc Cert.ProjLnRefIdeal.main_arg2) = m' ((c.tc : Thread Cert.ProjLnRefIdeal.nD Cert.ProjLnRefIdeal.τ).loc Cert.ProjLnRefIdeal.main_arg2)
          ∧ r.2.mem ((c.tc : Thread Cert.ProjLnRefIdeal.nD Cert.ProjLnRefIdeal.τ).loc Cert.ProjLnRefIdeal.main_arg3) = m' ((c.tc : Thread Cert.ProjLnRefIdeal.nD Cert.ProjLnRefIdeal.τ).loc Cert.ProjLnRefIdeal.main_arg3)
          ∧ r.2.mem ((c.tc : Thread Cert.ProjLnRefIdeal.nD Cert.ProjLnRefIdeal.τ).loc Cert.ProjLnRefIdeal.main_arg4) = m' ((c.tc : Thread Cert.ProjLnRefIdeal.nD Cert.ProjLnRefIdeal.τ).loc Cert.ProjLnRefIdeal.main_arg4))

def preserves_XAttn_XAttnIdeal : Prop :=
  True

def algebraic_XAttnIdeal_XAttnRefIdeal [hXAttnIdeal : Cert.XAttnIdeal.Facts] [hXAttnRefIdeal : Cert.XAttnRefIdeal.Facts] : Prop :=
  ∀ (m : (ℓ : Loc Cert.XAttnIdeal.nD Cert.XAttnIdeal.τ Cert.XAttnIdeal.sig) → Buf (Elt Ideal) ℓ) (g : Dev Cert.XAttnIdeal.nD → PrngReg)
    (m' : (ℓ : Loc Cert.XAttnRefIdeal.nD Cert.XAttnRefIdeal.τ Cert.XAttnRefIdeal.sig) → Buf (Elt Ideal) ℓ) (g' : Dev Cert.XAttnRefIdeal.nD → PrngReg), Pre_XAttnIdeal m →
    (∀ c : Dev Cert.XAttnIdeal.nD,
      m' ((c.tc : Thread Cert.XAttnRefIdeal.nD Cert.XAttnRefIdeal.τ).loc Cert.XAttnRefIdeal.main_arg0) = m ((c.tc : Thread Cert.XAttnIdeal.nD Cert.XAttnIdeal.τ).loc Cert.XAttnIdeal.main_arg0)
      ∧ m' ((c.tc : Thread Cert.XAttnRefIdeal.nD Cert.XAttnRefIdeal.τ).loc Cert.XAttnRefIdeal.main_arg1) = m ((c.tc : Thread Cert.XAttnIdeal.nD Cert.XAttnIdeal.τ).loc Cert.XAttnIdeal.main_arg1)
      ∧ m' ((c.tc : Thread Cert.XAttnRefIdeal.nD Cert.XAttnRefIdeal.τ).loc Cert.XAttnRefIdeal.main_arg2) = m ((c.tc : Thread Cert.XAttnIdeal.nD Cert.XAttnIdeal.τ).loc Cert.XAttnIdeal.main_arg2)
      ∧ m' ((c.tc : Thread Cert.XAttnRefIdeal.nD Cert.XAttnRefIdeal.τ).loc Cert.XAttnRefIdeal.main_arg3) = m ((c.tc : Thread Cert.XAttnIdeal.nD Cert.XAttnIdeal.τ).loc Cert.XAttnIdeal.main_arg3)
      ∧ m' ((c.tc : Thread Cert.XAttnRefIdeal.nD Cert.XAttnRefIdeal.τ).loc Cert.XAttnRefIdeal.main_arg4) = m ((c.tc : Thread Cert.XAttnIdeal.nD Cert.XAttnIdeal.τ).loc Cert.XAttnIdeal.main_arg4)
      ∧ m' ((c.tc : Thread Cert.XAttnRefIdeal.nD Cert.XAttnRefIdeal.τ).loc Cert.XAttnRefIdeal.main_arg5) = m ((c.tc : Thread Cert.XAttnIdeal.nD Cert.XAttnIdeal.τ).loc Cert.XAttnIdeal.main_arg5)
      ∧ m' ((c.tc : Thread Cert.XAttnRefIdeal.nD Cert.XAttnRefIdeal.τ).loc Cert.XAttnRefIdeal.main_arg6) = m ((c.tc : Thread Cert.XAttnIdeal.nD Cert.XAttnIdeal.τ).loc Cert.XAttnIdeal.main_arg6)
      ∧ m' ((c.tc : Thread Cert.XAttnRefIdeal.nD Cert.XAttnRefIdeal.τ).loc Cert.XAttnRefIdeal.main_arg7) = m ((c.tc : Thread Cert.XAttnIdeal.nD Cert.XAttnIdeal.τ).loc Cert.XAttnIdeal.main_arg7)) →
    ∃ (v0 : (c : Dev Cert.XAttnIdeal.nD) → Buf (Elt Ideal) ((c.tc : Thread Cert.XAttnIdeal.nD Cert.XAttnIdeal.τ).loc Cert.XAttnIdeal.main_v7)),
      θ_run (Cert.XAttnIdeal.defs (F := Ideal)) (onTc (τ := Cert.XAttnIdeal.τ) (Cert.XAttnIdeal.main (F := Ideal))) ⟨m, fun _ => 0, g⟩ (fun r => ∀ c : Dev Cert.XAttnIdeal.nD,
          r.2.mem ((c.tc : Thread Cert.XAttnIdeal.nD Cert.XAttnIdeal.τ).loc Cert.XAttnIdeal.main_v7) = v0 c
          ∧ r.2.mem ((c.tc : Thread Cert.XAttnIdeal.nD Cert.XAttnIdeal.τ).loc Cert.XAttnIdeal.main_arg0) = m ((c.tc : Thread Cert.XAttnIdeal.nD Cert.XAttnIdeal.τ).loc Cert.XAttnIdeal.main_arg0)
          ∧ r.2.mem ((c.tc : Thread Cert.XAttnIdeal.nD Cert.XAttnIdeal.τ).loc Cert.XAttnIdeal.main_arg1) = m ((c.tc : Thread Cert.XAttnIdeal.nD Cert.XAttnIdeal.τ).loc Cert.XAttnIdeal.main_arg1)
          ∧ r.2.mem ((c.tc : Thread Cert.XAttnIdeal.nD Cert.XAttnIdeal.τ).loc Cert.XAttnIdeal.main_arg2) = m ((c.tc : Thread Cert.XAttnIdeal.nD Cert.XAttnIdeal.τ).loc Cert.XAttnIdeal.main_arg2)
          ∧ r.2.mem ((c.tc : Thread Cert.XAttnIdeal.nD Cert.XAttnIdeal.τ).loc Cert.XAttnIdeal.main_arg3) = m ((c.tc : Thread Cert.XAttnIdeal.nD Cert.XAttnIdeal.τ).loc Cert.XAttnIdeal.main_arg3)
          ∧ r.2.mem ((c.tc : Thread Cert.XAttnIdeal.nD Cert.XAttnIdeal.τ).loc Cert.XAttnIdeal.main_arg4) = m ((c.tc : Thread Cert.XAttnIdeal.nD Cert.XAttnIdeal.τ).loc Cert.XAttnIdeal.main_arg4)
          ∧ r.2.mem ((c.tc : Thread Cert.XAttnIdeal.nD Cert.XAttnIdeal.τ).loc Cert.XAttnIdeal.main_arg5) = m ((c.tc : Thread Cert.XAttnIdeal.nD Cert.XAttnIdeal.τ).loc Cert.XAttnIdeal.main_arg5)
          ∧ r.2.mem ((c.tc : Thread Cert.XAttnIdeal.nD Cert.XAttnIdeal.τ).loc Cert.XAttnIdeal.main_arg6) = m ((c.tc : Thread Cert.XAttnIdeal.nD Cert.XAttnIdeal.τ).loc Cert.XAttnIdeal.main_arg6)
          ∧ r.2.mem ((c.tc : Thread Cert.XAttnIdeal.nD Cert.XAttnIdeal.τ).loc Cert.XAttnIdeal.main_arg7) = m ((c.tc : Thread Cert.XAttnIdeal.nD Cert.XAttnIdeal.τ).loc Cert.XAttnIdeal.main_arg7))
      ∧ θ_run (Cert.XAttnRefIdeal.defs (F := Ideal)) (onTc (τ := Cert.XAttnRefIdeal.τ) (Cert.XAttnRefIdeal.main (F := Ideal))) ⟨m', fun _ => 0, g'⟩ (fun r => ∀ c : Dev Cert.XAttnRefIdeal.nD,
          r.2.mem ((c.tc : Thread Cert.XAttnRefIdeal.nD Cert.XAttnRefIdeal.τ).loc Cert.XAttnRefIdeal.main_v50) = v0 c
          ∧ r.2.mem ((c.tc : Thread Cert.XAttnRefIdeal.nD Cert.XAttnRefIdeal.τ).loc Cert.XAttnRefIdeal.main_arg0) = m' ((c.tc : Thread Cert.XAttnRefIdeal.nD Cert.XAttnRefIdeal.τ).loc Cert.XAttnRefIdeal.main_arg0)
          ∧ r.2.mem ((c.tc : Thread Cert.XAttnRefIdeal.nD Cert.XAttnRefIdeal.τ).loc Cert.XAttnRefIdeal.main_arg1) = m' ((c.tc : Thread Cert.XAttnRefIdeal.nD Cert.XAttnRefIdeal.τ).loc Cert.XAttnRefIdeal.main_arg1)
          ∧ r.2.mem ((c.tc : Thread Cert.XAttnRefIdeal.nD Cert.XAttnRefIdeal.τ).loc Cert.XAttnRefIdeal.main_arg2) = m' ((c.tc : Thread Cert.XAttnRefIdeal.nD Cert.XAttnRefIdeal.τ).loc Cert.XAttnRefIdeal.main_arg2)
          ∧ r.2.mem ((c.tc : Thread Cert.XAttnRefIdeal.nD Cert.XAttnRefIdeal.τ).loc Cert.XAttnRefIdeal.main_arg3) = m' ((c.tc : Thread Cert.XAttnRefIdeal.nD Cert.XAttnRefIdeal.τ).loc Cert.XAttnRefIdeal.main_arg3)
          ∧ r.2.mem ((c.tc : Thread Cert.XAttnRefIdeal.nD Cert.XAttnRefIdeal.τ).loc Cert.XAttnRefIdeal.main_arg4) = m' ((c.tc : Thread Cert.XAttnRefIdeal.nD Cert.XAttnRefIdeal.τ).loc Cert.XAttnRefIdeal.main_arg4)
          ∧ r.2.mem ((c.tc : Thread Cert.XAttnRefIdeal.nD Cert.XAttnRefIdeal.τ).loc Cert.XAttnRefIdeal.main_arg5) = m' ((c.tc : Thread Cert.XAttnRefIdeal.nD Cert.XAttnRefIdeal.τ).loc Cert.XAttnRefIdeal.main_arg5)
          ∧ r.2.mem ((c.tc : Thread Cert.XAttnRefIdeal.nD Cert.XAttnRefIdeal.τ).loc Cert.XAttnRefIdeal.main_arg6) = m' ((c.tc : Thread Cert.XAttnRefIdeal.nD Cert.XAttnRefIdeal.τ).loc Cert.XAttnRefIdeal.main_arg6)
          ∧ r.2.mem ((c.tc : Thread Cert.XAttnRefIdeal.nD Cert.XAttnRefIdeal.τ).loc Cert.XAttnRefIdeal.main_arg7) = m' ((c.tc : Thread Cert.XAttnRefIdeal.nD Cert.XAttnRefIdeal.τ).loc Cert.XAttnRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v64) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def Claim : Prop :=
  ∃ (hInProj : Cert.InProj.Facts) (hInProjIdeal : Cert.InProjIdeal.Facts) (hInProjRefIdeal : Cert.InProjRefIdeal.Facts) (hProjLn : Cert.ProjLn.Facts) (hProjLnIdeal : Cert.ProjLnIdeal.Facts) (hProjLnRefIdeal : Cert.ProjLnRefIdeal.Facts) (hXAttn : Cert.XAttn.Facts) (hXAttnIdeal : Cert.XAttnIdeal.Facts) (hXAttnRefIdeal : Cert.XAttnRefIdeal.Facts) (hFfn : Cert.Ffn.Facts) (hFfnIdeal : Cert.FfnIdeal.Facts) (hFfnRefIdeal : Cert.FfnRefIdeal.Facts),
    quiescent_InProj (hInProj := hInProj)
    ∧ quiescent_InProjIdeal (hInProjIdeal := hInProjIdeal)
    ∧ quiescent_InProjRefIdeal (hInProjRefIdeal := hInProjRefIdeal)
    ∧ quiescent_ProjLn (hProjLn := hProjLn)
    ∧ quiescent_ProjLnIdeal (hProjLnIdeal := hProjLnIdeal)
    ∧ quiescent_ProjLnRefIdeal (hProjLnRefIdeal := hProjLnRefIdeal)
    ∧ quiescent_XAttn (hXAttn := hXAttn)
    ∧ quiescent_XAttnIdeal (hXAttnIdeal := hXAttnIdeal)
    ∧ quiescent_XAttnRefIdeal (hXAttnRefIdeal := hXAttnRefIdeal)
    ∧ quiescent_Ffn (hFfn := hFfn)
    ∧ quiescent_FfnIdeal (hFfnIdeal := hFfnIdeal)
    ∧ quiescent_FfnRefIdeal (hFfnRefIdeal := hFfnRefIdeal)
    ∧ preserves_InProj_InProjIdeal
    ∧ algebraic_InProjIdeal_InProjRefIdeal (hInProjIdeal := hInProjIdeal) (hInProjRefIdeal := hInProjRefIdeal)
    ∧ preserves_ProjLn_ProjLnIdeal
    ∧ algebraic_ProjLnIdeal_ProjLnRefIdeal (hProjLnIdeal := hProjLnIdeal) (hProjLnRefIdeal := hProjLnRefIdeal)
    ∧ preserves_XAttn_XAttnIdeal
    ∧ algebraic_XAttnIdeal_XAttnRefIdeal (hXAttnIdeal := hXAttnIdeal) (hXAttnRefIdeal := hXAttnRefIdeal)
    ∧ preserves_Ffn_FfnIdeal
    ∧ algebraic_FfnIdeal_FfnRefIdeal (hFfnIdeal := hFfnIdeal) (hFfnRefIdeal := hFfnRefIdeal)
-- ==== InProj.lean ====
abbrev S8192x2048 : Shape := ⟨2, ![8192, 2048]⟩
abbrev S2048x5664 : Shape := ⟨2, ![2048, 5664]⟩
abbrev S2048x3072 : Shape := ⟨2, ![2048, 3072]⟩
abbrev S2048x1024 : Shape := ⟨2, ![2048, 1024]⟩
abbrev S2048x1536 : Shape := ⟨2, ![2048, 1536]⟩
abbrev S2048x16 : Shape := ⟨2, ![2048, 16]⟩
abbrev S_ : Shape := ⟨0, ![]⟩
abbrev S2048x128 : Shape := ⟨2, ![2048, 128]⟩
abbrev S2048x256 : Shape := ⟨2, ![2048, 256]⟩
abbrev S8192x3072 : Shape := ⟨2, ![8192, 3072]⟩
abbrev S8192x1024 : Shape := ⟨2, ![8192, 1024]⟩
abbrev S8192x1536 : Shape := ⟨2, ![8192, 1536]⟩
abbrev S8192x256 : Shape := ⟨2, ![8192, 256]⟩
abbrev S256x2048 : Shape := ⟨2, ![256, 2048]⟩
abbrev S256x3072 : Shape := ⟨2, ![256, 3072]⟩
abbrev S256x1024 : Shape := ⟨2, ![256, 1024]⟩
abbrev S256x1536 : Shape := ⟨2, ![256, 1536]⟩
abbrev S256x256 : Shape := ⟨2, ![256, 256]⟩

abbrev nBuf : Space → Nat
  | .hbm => 22
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x5664, .f32⟩
  | .hbm, ⟨2, _⟩ => ⟨S2048x3072, .f32⟩
  | .hbm, ⟨3, _⟩ => ⟨S2048x3072, .bf16⟩
  | .hbm, ⟨4, _⟩ => ⟨S2048x1024, .f32⟩
  | .hbm, ⟨5, _⟩ => ⟨S2048x1024, .bf16⟩
  | .hbm, ⟨6, _⟩ => ⟨S2048x1536, .f32⟩
  | .hbm, ⟨7, _⟩ => ⟨S2048x1536, .bf16⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x16, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x256, .f32⟩
  | .hbm, ⟨17, _⟩ => ⟨S2048x256, .bf16⟩
  | .hbm, ⟨18, _⟩ => ⟨S8192x3072, .f32⟩
  | .hbm, ⟨19, _⟩ => ⟨S8192x1024, .f32⟩
  | .hbm, ⟨20, _⟩ => ⟨S8192x1536, .f32⟩
  | .hbm, ⟨21, _⟩ => ⟨S8192x256, .f32⟩
  | .local _ .vmem, ⟨0, _⟩ => ⟨S256x2048, .f32⟩
  | .local _ .vmem, ⟨1, _⟩ => ⟨S256x2048, .f32⟩
  | .local _ .vmem, ⟨2, _⟩ => ⟨S2048x3072, .bf16⟩
  | .local _ .vmem, ⟨3, _⟩ => ⟨S2048x1024, .bf16⟩
  | .local _ .vmem, ⟨4, _⟩ => ⟨S2048x1536, .bf16⟩
  | .local _ .vmem, ⟨5, _⟩ => ⟨S2048x256, .bf16⟩
  | .local _ .vmem, ⟨6, _⟩ => ⟨S256x3072, .f32⟩
  | .local _ .vmem, ⟨7, _⟩ => ⟨S256x3072, .f32⟩
  | .local _ .vmem, ⟨8, _⟩ => ⟨S256x1024, .f32⟩
  | .local _ .vmem, ⟨9, _⟩ => ⟨S256x1024, .f32⟩
  | .local _ .vmem, ⟨10, _⟩ => ⟨S256x1536, .f32⟩
  | .local _ .vmem, ⟨11, _⟩ => ⟨S256x1536, .f32⟩
  | .local _ .vmem, ⟨12, _⟩ => ⟨S256x256, .f32⟩
  | .local _ .vmem, ⟨13, _⟩ => ⟨S256x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S8192x2048 : Shape := ⟨2, ![8192, 2048]⟩
abbrev S2048x5664 : Shape := ⟨2, ![2048, 5664]⟩
abbrev S8192x5664 : Shape := ⟨2, ![8192, 5664]⟩
abbrev S8192x3072 : Shape := ⟨2, ![8192, 3072]⟩
abbrev S8192x16 : Shape := ⟨2, ![8192, 16]⟩
abbrev S8192x1024 : Shape := ⟨2, ![8192, 1024]⟩
abbrev S8192x1536 : Shape := ⟨2, ![8192, 1536]⟩
abbrev S_ : Shape := ⟨0, ![]⟩
abbrev S8192x128 : Shape := ⟨2, ![8192, 128]⟩
abbrev S8192x256 : Shape := ⟨2, ![8192, 256]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5664, .f32⟩
  | .hbm, ⟨2, _⟩ => ⟨S8192x5664, .f32⟩
  | .hbm, ⟨3, _⟩ => ⟨S8192x3072, .f32⟩
  | .hbm, ⟨4, _⟩ => ⟨S8192x16, .f32⟩
  | .hbm, ⟨5, _⟩ => ⟨S8192x1024, .f32⟩
  | .hbm, ⟨6, _⟩ => ⟨S8192x1536, .f32⟩
  | .hbm, ⟨7, _⟩ => ⟨S8192x16, .f32⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S_, .i32⟩
  | .hbm, ⟨12, _⟩ => ⟨S_, .f32⟩
  | .hbm, ⟨13, _⟩ => ⟨S8192x128, .f32⟩
  | .hbm, ⟨14, _⟩ => ⟨S8192x256, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== ProjLn.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjLnRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== XAttn.lean ====
abbrev S8192x2048 : Shape := ⟨2, ![8192, 2048]⟩
abbrev S256x2048 : Shape := ⟨2, ![256, 2048]⟩
abbrev S2048x2048 : Shape := ⟨2, ![2048, 2048]⟩
abbrev S2048 : Shape := ⟨1, ![2048]⟩
abbrev S2048x4096 : Shape := ⟨2, ![2048, 4096]⟩
abbrev S256x4096 : Shape := ⟨2, ![256, 4096]⟩
abbrev S2048x1024 : Shape := ⟨2, ![2048, 1024]⟩
abbrev S256x1024 : Shape := ⟨2, ![256, 1024]⟩
abbrev S1x2048 : Shape := ⟨2, ![1, 2048]⟩
abbrev S512x2048 : Shape := ⟨2, ![512, 2048]⟩
abbrev S256x512 : Shape := ⟨2, ![256, 512]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S256x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x4096, .f32⟩
  | .hbm, ⟨9, _⟩ => ⟨S2048x4096, .bf16⟩
  | .hbm, ⟨10, _⟩ => ⟨S256x4096, .bf16⟩
  | .hbm, ⟨11, _⟩ => ⟨S2048x2048, .bf16⟩
  | .hbm, ⟨12, _⟩ => ⟨S2048x2048, .bf16⟩
  | .hbm, ⟨13, _⟩ => ⟨S1x2048, .f32⟩
  | .hbm, ⟨14, _⟩ => ⟨S1x2048, .f32⟩
  | .hbm, ⟨15, _⟩ => ⟨S8192x2048, .f32⟩
  | .local _ .vmem, ⟨0, _⟩ => ⟨S256x2048, .f32⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | .local _ .vmem, ⟨8, _⟩ => ⟨S256x4096, .bf16⟩
  | .local _ .vmem, ⟨9, _⟩ => ⟨S2048x2048, .bf16⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== XAttnRefIdeal.lean ====
abbrev S8192x2048 : Shape := ⟨2, ![8192, 2048]⟩
abbrev S256x2048 : Shape := ⟨2, ![256, 2048]⟩
abbrev S2048x2048 : Shape := ⟨2, ![2048, 2048]⟩
abbrev S2048 : Shape := ⟨1, ![2048]⟩
abbrev S8192x4x512 : Shape := ⟨3, ![8192, 4, 512]⟩
abbrev S256x4x512 : Shape := ⟨3, ![256, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩
abbrev S8192 : Shape := ⟨1, ![8192]⟩
abbrev S8192x1 : Shape := ⟨2, ![8192, 1]⟩
abbrev S1x2048 : Shape := ⟨2, ![1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S8192x2048, .f32⟩
  | .hbm, ⟨9, _⟩ => ⟨S8192x4x512, .f32⟩
  | .hbm, ⟨10, _⟩ => ⟨S256x2048, .f32⟩
  | .hbm, ⟨11, _⟩ => ⟨S256x4x512, .f32⟩
  | .hbm, ⟨12, _⟩ => ⟨S256x2048, .f32⟩
  | .hbm, ⟨13, _⟩ => ⟨S256x4x512, .f32⟩
  | .hbm, ⟨14, _⟩ => ⟨S4x8192x256, .f32⟩
  | .hbm, ⟨15, _⟩ => ⟨S_, .f32⟩
  | .hbm, ⟨16, _⟩ => ⟨S4x8192x256, .f32⟩
  | .hbm, ⟨17, _⟩ => ⟨S4x8192x256, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x8192x256, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S4x8192x256, .f32⟩
  | .hbm, ⟨31, _⟩ => ⟨S4x8192x256, .f32⟩
  | .hbm, ⟨32, _⟩ => ⟨S4x512x8192, .f32⟩
  | .hbm, ⟨33, _⟩ => ⟨S8192x4x512, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x2048, .f32⟩
  | .hbm, ⟨62, _⟩ => ⟨S8192x2048, .f32⟩
  | .hbm, ⟨63, _⟩ => ⟨S1x2048, .f32⟩
  | .hbm, ⟨64, _⟩ => ⟨S8192x2048, .f32⟩
  | .hbm, ⟨65, _⟩ => ⟨S8192x2048, .f32⟩
  | .hbm, ⟨66, _⟩ => ⟨S1x2048, .f32⟩
  | .hbm, ⟨67, _⟩ => ⟨S8192x2048, .f32⟩
  | .hbm, ⟨68, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Ffn.lean ====
abbrev S8192x2048 : Shape := ⟨2, ![8192, 2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S2048 : Shape := ⟨1, ![2048]⟩
abbrev S2048x5632 : Shape := ⟨2, ![2048, 5632]⟩
abbrev S1x5632 : Shape := ⟨2, ![1, 5632]⟩
abbrev S1x2048 : Shape := ⟨2, ![1, 2048]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S11x8x512 : Shape := ⟨3, ![11, 8, 512]⟩
abbrev S520x512 : Shape := ⟨2, ![520, 512]⟩
abbrev S8x512 : Shape := ⟨2, ![8, 512]⟩
abbrev S1x8x512 : Shape := ⟨3, ![1, 8, 512]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S3x5632, .f32⟩
  | .hbm, ⟨3, _⟩ => ⟨S5632, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .bf16⟩
  | .hbm, ⟨12, _⟩ => ⟨S1x5632, .f32⟩
  | .hbm, ⟨13, _⟩ => ⟨S1x2048, .f32⟩
  | .hbm, ⟨14, _⟩ => ⟨S1x2048, .f32⟩
  | .hbm, ⟨15, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .f32⟩
  | .local _ .vmem, ⟨18, _⟩ => ⟨S11x8x512, .f32⟩
  | .local _ .vmem, ⟨19, _⟩ => ⟨S520x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v66 : Index := Scalar.indexCast arg1
  let c0_36 : Index := 0#32
  let c0_37 : Index := 0#32
  ![v66.toNat, 0, 0]
def k0_off2 (i : grid0.Coords) : Fin 3 → Nat :=
  let arg1 : BitVec 32 := BitVec.ofNat 32 (i 1).val
  let v13 : Index := Scalar.indexCast arg1
  let c0_9 : Index := 0#32
  let c0_10 : Index := 0#32
  ![v13.toNat, 0, 0]
def k0_cond3 (i : grid0.Coords) : BitVec 1 :=
  let arg1 : BitVec 32 := BitVec.ofNat 32 (i 1).val
  let c10_i32 : BitVec 32 := 10#32
  let v62 : BitVec 1 := Scalar.cmpi .eq arg1 c10_i32
  let v63 : BitVec 32 := Scalar.extui v62
  let c0_i32_34 : BitVec 32 := 0#32
  let v64 : BitVec 1 := Scalar.cmpi .ne v63 c0_i32_34
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S8192x2048 : Shape := ⟨2, ![8192, 2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S2048 : Shape := ⟨1, ![2048]⟩
abbrev S8192x11264 : Shape := ⟨2, ![8192, 11264]⟩
abbrev S8192x5632 : Shape := ⟨2, ![8192, 5632]⟩
abbrev S_ : Shape := ⟨0, ![]⟩
abbrev S8194x5632 : Shape := ⟨2, ![8194, 5632]⟩
abbrev S1x5632 : Shape := ⟨2, ![1, 5632]⟩
abbrev S8192 : Shape := ⟨1, ![8192]⟩
abbrev S8192x1 : Shape := ⟨2, ![8192, 1]⟩
abbrev S1x2048 : Shape := ⟨2, ![1, 2048]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S3x5632, .f32⟩
  | .hbm, ⟨3, _⟩ => ⟨S5632, .f32⟩
  | .hbm, ⟨4, _⟩ => ⟨S5632x2048, .f32⟩
  | .hbm, ⟨5, _⟩ => ⟨S2048, .f32⟩
  | .hbm, ⟨6, _⟩ => ⟨S2048, .f32⟩
  | .hbm, ⟨7, _⟩ => ⟨S8192x11264, .f32⟩
  | .hbm, ⟨8, _⟩ => ⟨S8192x5632, .f32⟩
  | .hbm, ⟨9, _⟩ => ⟨S8192x5632, .f32⟩
  | .hbm, ⟨10, _⟩ => ⟨S_, .i32⟩
  | .hbm, ⟨11, _⟩ => ⟨S_, .f32⟩
  | .hbm, ⟨12, _⟩ => ⟨S8194x5632, .f32⟩
  | .hbm, ⟨13, _⟩ => ⟨S1x5632, .f32⟩
  | .hbm, ⟨14, _⟩ => ⟨S5632, .f32⟩
  | .hbm, ⟨15, _⟩ => ⟨S8192x5632, .f32⟩
  | .hbm, ⟨16, _⟩ => ⟨S1x5632, .f32⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S1x5632, .f32⟩
  | .hbm, ⟨23, _⟩ => ⟨S5632, .f32⟩
  | .hbm, ⟨24, _⟩ => ⟨S8192x5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S1x5632, .f32⟩
  | .hbm, ⟨30, _⟩ => ⟨S5632, .f32⟩
  | .hbm, ⟨31, _⟩ => ⟨S8192x5632, .f32⟩
  | .hbm, ⟨32, _⟩ => ⟨S1x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S1x5632, .f32⟩
  | .hbm, ⟨37, _⟩ => ⟨S8192x5632, .f32⟩
  | .hbm, ⟨38, _⟩ => ⟨S8192x5632, .f32⟩
  | .hbm, ⟨39, _⟩ => ⟨S_, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S_, .f32⟩
  | .hbm, ⟨44, _⟩ => ⟨S8192x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x2048, .f32⟩
  | .hbm, ⟨70, _⟩ => ⟨S8192x2048, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x2048, .f32⟩
  | .hbm, ⟨76, _⟩ => ⟨S8192x2048, .f32⟩
  | .hbm, ⟨77, _⟩ => ⟨S1x2048, .f32⟩
  | .hbm, ⟨78, _⟩ => ⟨S8192x2048, .f32⟩
  | .hbm, ⟨79, _⟩ => ⟨S8192x2048, .f32⟩
  | .hbm, ⟨80, _⟩ => ⟨S1x2048, .f32⟩
  | .hbm, ⟨81, _⟩ => ⟨S8192x2048, .f32⟩
  | .hbm, ⟨82, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Proof.Rows.lean ====
module

public import Idealize.ShloMosaic.Lib.Pointwise

/-!
  The mathematics of one row of the layer, over the extended reals, at plain functions of `Fin n`: layer normalization with the residual,
  and softmax attention of one token into the memory tokens. Both the kernel and the reference are read as these functions.
-/

@[expose] public section

noncomputable section

namespace Cert.Rows

open Idealize.ShloMosaic

/-- The mean of a row of 2048 entries. -/
def mean (y : Fin 2048 → EReal) : EReal := Ideal.div (∑ k, y k) (Ideal.ofBits FTy.f32 1157627904#32)

/-- Layer normalization of a row, with gain `g` and offset `b`. -/
def layerNorm (y g b : Fin 2048 → EReal) (j : Fin 2048) : EReal :=
  (y j - mean y) * Ideal.rsqrt (mean (fun k => (y k - mean y) * (y k - mean y)) + Ideal.ofBits FTy.f32 925353388#32) * g j + b j

/-- The residual step of a block: the scaled input plus the block's update. -/
def skipAdd (x h : Fin 2048 → EReal) (k : Fin 2048) : EReal := Ideal.ofBits FTy.f32 1071072509#32 * x k + h k

/-- A row times a matrix. -/
def rowMul {n p : Nat} (x : Fin n → EReal) (w : Fin n → Fin p → EReal) (j : Fin p) : EReal := ∑ e, x e * w e j

/-- Softmax over the memory tokens, with the maximum subtracted. -/
def softmax (s : Fin 256 → EReal) (m : Fin 256) : EReal :=
  Ideal.div (Ideal.exp (s m - Finset.fold max (Ideal.ofBits FTy.f32 4286578688#32) s Finset.univ))
    (∑ m', Ideal.exp (s m' - Finset.fold max (Ideal.ofBits FTy.f32 4286578688#32) s Finset.univ))

/-- The column of feature `d` of head `h`. -/
def headCol (h : Fin 4) (d : Fin 512) : Fin 2048 := ⟨512 * h.val + d.val, by omega⟩

/-- The head a column belongs to. -/
def headOf (j : Fin 2048) : Fin 4 := ⟨j.val / 512, by omega⟩

/-- The scaled score of a query row against memory token `m` in head `h`. -/
def score (q : Fin 2048 → EReal) (K : Fin 256 → Fin 2048 → EReal) (h : Fin 4) (m : Fin 256) : EReal :=
  (∑ d : Fin 512, q (headCol h d) * K m (headCol h d)) * Ideal.ofBits FTy.f32 1026884851#32

/-- The attention row: per column the values averaged by the head's softmax weights. -/
def attend (q : Fin 2048 → EReal) (K V : Fin 256 → Fin 2048 → EReal) (j : Fin 2048) : EReal :=
  ∑ m, softmax (score q K (headOf j)) m * V m j

/-- The cross-attention block of one token. -/
def xattn (x : Fin 2048 → EReal) (wq : Fin 2048 → Fin 2048 → EReal) (K V : Fin 256 → Fin 2048 → EReal)
    (wo : Fin 2048 → Fin 2048 → EReal) (g b : Fin 2048 → EReal) (j : Fin 2048) : EReal :=
  layerNorm (skipAdd x (rowMul (attend (rowMul x wq) K V) wo)) g b j

end Cert.Rows
end
-- ==== Proof.IpBlocks.lean ====
module

public import proofs.«01_k».proof.Proof.Gen.InProjIdeal.Frame
public import proofs.«01_k».proof.Proof.Rows
public import Idealize.ShloMosaic.Lib.Pipeline.ValueKit
public import Idealize.ShloMosaic.Lib.Pointwise

/-! The in-projection: what a grid point writes to its four windows, and the four arrays the call leaves. -/

@[expose] public section

set_option maxRecDepth 16384

noncomputable section

namespace Cert.InProjValue

open Idealize.ShloMosaic Idealize.ShloMosaic.TcCoe Idealize.SL.Sem
open Cert.InProjIdeal Cert.InProjIdeal.Gen Cert.Rows

/-! The blocks a grid point writes are the products of its rows with the four weight pieces. -/

theorem pay2_at (x : Vec Ideal S256x2048 .f32) (w : Vec Ideal S2048x3072 .bf16) (r : Fin 256) (j : Fin 3072) :
    k0_pay2 x w (ix2 r j) = rowMul (fun k => x (ix2 r k)) (fun e k => w (ix2 e k)) j := by
  pointwise [k0_pay2, k0_pay1]
  simp only [rowMul]

theorem pay3_at (x : Vec Ideal S256x2048 .f32) (w : Vec Ideal S2048x1024 .bf16) (r : Fin 256) (j : Fin 1024) :
    k0_pay3 x w (ix2 r j) = rowMul (fun k => x (ix2 r k)) (fun e k => w (ix2 e k)) j := by
  pointwise [k0_pay3, k0_pay1]
  simp only [rowMul]

theorem pay4_at (x : Vec Ideal S256x2048 .f32) (w : Vec Ideal S2048x1536 .bf16) (r : Fin 256) (j : Fin 1536) :
    k0_pay4 x w (ix2 r j) = rowMul (fun k => x (ix2 r k)) (fun e k => w (ix2 e k)) j := by
  pointwise [k0_pay4, k0_pay1]
  simp only [rowMul]

theorem pay5_at (x : Vec Ideal S256x2048 .f32) (w : Vec Ideal S2048x256 .bf16) (r : Fin 256) (j : Fin 256) :
    k0_pay5 x w (ix2 r j) = rowMul (fun k => x (ix2 r k)) (fun e k => w (ix2 e k)) j := by
  pointwise [k0_pay5, k0_pay1]
  simp only [rowMul]

/-- The windows' blocks: a row block of the input and of each result, the weights whole. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0] :=
  (by decide +kernel : ∀ t : Fin grid0.N, _)

theorem lt_point (t : Fin cfg0.N) : t.val < 32 := by
  have h : cfg0.N = 32 := by decide
  exact h ▸ t.isLt

/-- The token in row `r` of point `t`'s block. -/
def rowOf (t : Fin cfg0.N) (r : Fin 256) : Fin 8192 := ⟨256 * t.val + r.val, by have := lt_point t; omega⟩

variable (m : (ℓ : Loc nD τ sig) → Buf (Elt Ideal) ℓ) (ρ : Dev nD → PrngReg) (c : Dev nD)

theorem b0 (t : Fin cfg0.N) (r : Fin 256) : (fun k => iblk m c 0 t (ix2 r k)) = fun k => V m c main_arg0 (ix2 (rowOf t r) k) := by
  funext k; unfold rowOf; blk_ext [iblk, idx t]
theorem b1 (t : Fin cfg0.N) : (iblk m c 1 t : Vec Ideal S2048x3072 .bf16) = V m c main_v1 := by
  funext y; blk_ext [iblk, idx t]
theorem b2 (t : Fin cfg0.N) : (iblk m c 2 t : Vec Ideal S2048x1024 .bf16) = V m c main_v3 := by
  funext y; blk_ext [iblk, idx t]
theorem b3 (t : Fin cfg0.N) : (iblk m c 3 t : Vec Ideal S2048x1536 .bf16) = V m c main_v5 := by
  funext y; blk_ext [iblk, idx t]
theorem b4 (t : Fin cfg0.N) : (iblk m c 4 t : Vec Ideal S2048x256 .bf16) = V m c main_v11 := by
  funext y; blk_ext [iblk, idx t]

/-- The product of the tokens' rows with a weight piece of `n` columns, entry by entry. -/
def product {n : ℕ} (x : Vec Ideal S8192x2048 .f32) (w : Fin 2048 → Fin n → EReal) (s : Fin 8192) (j : Fin n) : EReal :=
  rowMul (fun k => x (ix2 s k)) w j

/-- The four results. -/
def out5 : Vec Ideal S8192x3072 .f32 := fun y : S8192x3072.Idx => product (V m c main_arg0) (fun e k => V m c main_v1 (ix2 e k)) (y 0) (y 1)
def out6 : Vec Ideal S8192x1024 .f32 := fun y : S8192x1024.Idx => product (V m c main_arg0) (fun e k => V m c main_v3 (ix2 e k)) (y 0) (y 1)
def out7 : Vec Ideal S8192x1536 .f32 := fun y : S8192x1536.Idx => product (V m c main_arg0) (fun e k => V m c main_v5 (ix2 e k)) (y 0) (y 1)
def out8 : Vec Ideal S8192x256 .f32 := fun y : S8192x256.Idx => product (V m c main_arg0) (fun e k => V m c main_v11 (ix2 e k)) (y 0) (y 1)

/-- The query, key, value and out-gate columns after the call, -/
theorem final5 : (dats m 0 c).arrAt 5 cfg0.N = out5 m c := by
  refine (dats m 0 c).arrAt_eq_of_covers 5 _ (by decide +kernel) fun t hf y => ?_
  blk_simp
  rw [after0_5]
  frame_out
  obtain ⟨r, j, rfl⟩ : ∃ r j, y = ix2 r j := ⟨y 0, y 1, eq_ix2 y⟩
  refine (pay2_at _ _ r j).trans ?_
  have he : (win0_5.blk t).view.emb (ix2 r j) = ix2 (rowOf t r) j := by unfold rowOf; blk_ext [idx t]
  rw [he, b0, b1]
  rfl

/-- the gate columns of the state-space heads, -/
theorem final6 : (dats m 0 c).arrAt 6 cfg0.N = out6 m c := by
  refine (dats m 0 c).arrAt_eq_of_covers 6 _ (by decide +kernel) fun t hf y => ?_
  blk_simp
  rw [after0_6]
  frame_out
  obtain ⟨r, j, rfl⟩ : ∃ r j, y = ix2 r j := ⟨y 0, y 1, eq_ix2 y⟩
  refine (pay3_at _ _ r j).trans ?_
  have he : (win0_6.blk t).view.emb (ix2 r j) = ix2 (rowOf t r) j := by unfold rowOf; blk_ext [idx t]
  rw [he, b0, b2]
  rfl

/-- their convolution columns, -/
theorem final7 : (dats m 0 c).arrAt 7 cfg0.N = out7 m c := by
  refine (dats m 0 c).arrAt_eq_of_covers 7 _ (by decide +kernel) fun t hf y => ?_
  blk_simp
  rw [after0_7]
  frame_out
  obtain ⟨r, j, rfl⟩ : ∃ r j, y = ix2 r j := ⟨y 0, y 1, eq_ix2 y⟩
  refine (pay4_at _ _ r j).trans ?_
  have he : (win0_7.blk t).view.emb (ix2 r j) = ix2 (rowOf t r) j := by unfold rowOf; blk_ext [idx t]
  rw [he, b0, b3]
  rfl

/-- and the two narrow pieces. -/
theorem final8 : (dats m 0 c).arrAt 8 cfg0.N = out8 m c := by
  refine (dats m 0 c).arrAt_eq_of_covers 8 _ (by decide +kernel) fun t hf y => ?_
  blk_simp
  rw [after0_8]
  frame_out
  obtain ⟨r, j, rfl⟩ : ∃ r j, y = ix2 r j := ⟨y 0, y 1, eq_ix2 y⟩
  refine (pay5_at _ _ r j).trans ?_
  have he : (win0_8.blk t).view.emb (ix2 r j) = ix2 (rowOf t r) j := by unfold rowOf; blk_ext [idx t]
  rw [he, b0, b4]
  rfl

/-- Every execution ends with the four result arrays at the four products. -/
theorem run_value : θ_run defs (onTc (τ := τ) (main (F := Ideal))) ⟨m, fun _ => 0, ρ⟩ (fun r => ∀ c : Dev nD,
      r.2.mem ((c.tc : Thread nD τ).loc main_v12_0) = out5 m c
      ∧ r.2.mem ((c.tc : Thread nD τ).loc main_v12_1) = out6 m c
      ∧ r.2.mem ((c.tc : Thread nD τ).loc main_v12_2) = out7 m c
      ∧ r.2.mem ((c.tc : Thread nD τ).loc main_v12_3) = out8 m c) :=
  (θ_run defs _ _).mono (fun _ h c => ⟨((h c).1 5).trans (final5 m c), ((h c).1 6).trans (final6 m c), ((h c).1 7).trans (final7 m c),
    ((h c).1 8).trans (final8 m c)⟩) (run_main m ρ)

end Cert.InProjValue
end
-- ==== Proof.IpRef.lean ====
module

public import proofs.«01_k».proof.Proof.Gen.InProjRefIdeal.Read
public import proofs.«01_k».proof.Proof.IpBlocks
public import Idealize.ShloMosaic.Lib.KernelVsHost

/-! The reference of the in-projection, read at an entry, and the equations of the four results. -/

@[expose] public section

set_option maxRecDepth 16384

noncomputable section

namespace Cert.Rows

open Idealize.ShloMosaic

/-- Sixteen columns followed by zeros up to 128, read at a column. -/
theorem padded_at {n : ℕ} (v : Vec Ideal ⟨2, ![n, 16]⟩ .f32) (z : Vec Ideal ⟨0, ![]⟩ .f32) (h) (hu) (hz : ∀ i, z i = 0) (s : Fin n) (j : Fin 128) :
    pad (⟨2, ![n, 128]⟩ : Shape) (![0, 0] : Fin 2 → ℕ) ![0, 112] ![0, 0] v z h hu (ix2 s j) = if hj : j.val < 16 then v (ix2 s ⟨j.val, hj⟩) else 0 := by
  split
  · next hj =>
    refine pad_apply_of_inside _ _ _ _ _ _ _ _ (ix2 s (⟨j.val, hj⟩ : Fin 16)) fun a => ?_
    fin_cases a <;> simp [ix2]
  · next hj =>
    refine (pad_apply_of_not_inside _ _ _ _ _ _ _ _ (1 : Fin 2) ?_).trans (hz _)
    simp [ix2]; omega

/-- The joined narrow pieces of a row `p` of 5664 entries: entries 3072 to 3087 from column 0, entries 5648 to 5663 from column 128, zeros elsewhere. -/
def narrow (p : Fin 5664 → EReal) (j : Fin 256) : EReal :=
  if h : j.val < 16 then p ⟨3072 + j.val, by omega⟩
  else if h : 128 ≤ j.val ∧ j.val < 144 then p ⟨5648 + (j.val - 128), by omega⟩ else 0

/-- Two such padded pieces side by side. -/
theorem joined_at {n : ℕ} (p : Fin n → Fin 5664 → EReal) (u v : Vec Ideal ⟨2, ![n, 16]⟩ .f32) (z z' : Vec Ideal ⟨0, ![]⟩ .f32) (h h') (hu hu')
    (hc : Shape.Concatenates [⟨2, ![n, 128]⟩, ⟨2, ![n, 128]⟩] (⟨2, ![n, 256]⟩ : Shape) 1) (hz : ∀ i, z i = 0) (hz' : ∀ i, z' i = 0)
    (e0 : ∀ s (k : Fin 16), u (ix2 s k) = p s ⟨3072 + k.val, by omega⟩) (e1 : ∀ s (k : Fin 16), v (ix2 s k) = p s ⟨5648 + k.val, by omega⟩)
    (s : Fin n) (j : Fin 256) :
    concatenate (⟨2, ![n, 256]⟩ : Shape) 1 [⟨⟨2, ![n, 128]⟩, pad (⟨2, ![n, 128]⟩ : Shape) (![0, 0] : Fin 2 → ℕ) ![0, 112] ![0, 0] u z h hu⟩,
      ⟨⟨2, ![n, 128]⟩, pad (⟨2, ![n, 128]⟩ : Shape) (![0, 0] : Fin 2 → ℕ) ![0, 112] ![0, 0] v z' h' hu'⟩] hc (ix2 s j) = narrow (p s) j := by
  unfold narrow
  by_cases hj : j.val < 128
  · refine (concatenate_pair_apply_left 1 _ _ hc (ix2 s j) rfl (ix2 s (⟨j.val, hj⟩ : Fin 128)) fun b => by fin_cases b <;> rfl).trans ?_
    rw [padded_at u z h hu hz]
    split
    · next hk => exact e0 s _
    · next hk => rw [dif_neg (by omega)]
  · refine (concatenate_pair_apply_right 1 _ _ hc (ix2 s j) rfl rfl (ix2 s (⟨j.val - 128, by omega⟩ : Fin 128))
      (fun b hb => by fin_cases b <;> simp_all [ix2]) (show (j.val - 128) + 128 = j.val by omega)).trans ?_
    rw [padded_at v z' h' hu' hz', dif_neg (by omega : ¬ j.val < 16)]
    by_cases hk : j.val - 128 < 16
    · rw [dif_pos hk, dif_pos (by omega)]; exact e1 s _
    · rw [dif_neg hk, dif_neg (by omega)]

/-- Multiplying a row with the narrow pieces of the weights' rows gives the narrow pieces of the product. -/
theorem rowMul_narrow (x : Fin 2048 → EReal) (w : Fin 2048 → Fin 5664 → EReal) (j : Fin 256) :
    rowMul x (fun e => narrow (w e)) j = narrow (rowMul x w) j := by
  simp only [narrow, rowMul]
  split
  · rfl
  · split
    · rfl
    · exact Finset.sum_eq_zero fun e _ => mul_zero _

/-- The integer zero a pad's border is made of, as a number. -/
theorem zero_border (i : (⟨0, ![]⟩ : Shape).Idx) : (sitofp (F := Ideal) .f32 (constantI ⟨0, ![]⟩ 32 0#32) : FVec Ideal ⟨0, ![]⟩ .f32) i = (0 : EReal) := by
  show (((0#32 : BitVec 32).toInt : ℝ) : EReal) = 0
  simp

end Cert.Rows

namespace Cert.InProjRefIdeal.Hand

open Idealize.ShloMosaic Idealize.ShloMosaic.TcCoe
open Cert.InProjRefIdeal Cert.InProjRefIdeal.Gen Cert.InProjRefIdeal.Read Cert.Rows

variable (x : Vec Ideal S8192x2048 .f32) (w : Vec Ideal S2048x5664 .f32)

/-- A token's projected row. -/
def proj (s : Fin 8192) : Fin 5664 → EReal := rowMul (fun k => x (ix2 s k)) (fun e k => w (ix2 e k))

theorem proj_at (s : Fin 8192) (j : Fin 5664) : val_main_v0 (F := Ideal) x w (ix2 s j) = proj x w s j := by
  rw [val_main_v0_apply]
  unfold proj rowMul
  refine Finset.sum_congr rfl fun e _ => ?_
  have hl : lidx_main_v0 (ix2 s j) e = ix2 s e := by funext a; fin_cases a <;> rfl
  have hr : ridx_main_v0 (ix2 s j) e = ix2 e j := by funext a; fin_cases a <;> rfl
  rw [hl, hr]

/-! The reference's column pieces. -/

theorem first_at (s : Fin 8192) (j : Fin 3072) : val_main_v1 (F := Ideal) x w (ix2 s j) = proj x w s ⟨j.val, by omega⟩ := by
  have hi : idx_main_v1 (ix2 s j) = ix2 s (⟨j.val, by omega⟩ : Fin 5664) := by funext a; fin_cases a <;> rfl
  rw [val_main_v1_apply, hi, proj_at]
theorem rank_at (s : Fin 8192) (j : Fin 16) : val_main_v2 (F := Ideal) x w (ix2 s j) = proj x w s ⟨3072 + j.val, by omega⟩ := by
  have hi : idx_main_v2 (ix2 s j) = ix2 s (⟨3072 + j.val, by omega⟩ : Fin 5664) := by funext a; fin_cases a <;> rfl
  rw [val_main_v2_apply, hi, proj_at]
theorem z_at (s : Fin 8192) (j : Fin 1024) : val_main_v3 (F := Ideal) x w (ix2 s j) = proj x w s ⟨3088 + j.val, by omega⟩ := by
  have hi : idx_main_v3 (ix2 s j) = ix2 s (⟨3088 + j.val, by omega⟩ : Fin 5664) := by funext a; fin_cases a <;> rfl
  rw [val_main_v3_apply, hi, proj_at]
theorem xbc_at (s : Fin 8192) (j : Fin 1536) : val_main_v4 (F := Ideal) x w (ix2 s j) = proj x w s ⟨4112 + j.val, by omega⟩ := by
  have hi : idx_main_v4 (ix2 s j) = ix2 s (⟨4112 + j.val, by omega⟩ : Fin 5664) := by funext a; fin_cases a <;> rfl
  rw [val_main_v4_apply, hi, proj_at]
theorem step_at (s : Fin 8192) (j : Fin 16) : val_main_v5 (F := Ideal) x w (ix2 s j) = proj x w s ⟨5648 + j.val, by omega⟩ := by
  have hi : idx_main_v5 (ix2 s j) = ix2 s (⟨5648 + j.val, by omega⟩ : Fin 5664) := by funext a; fin_cases a <;> rfl
  rw [val_main_v5_apply, hi, proj_at]

/-- The two narrow pieces, each followed by zeros. -/
theorem narrow_at (s : Fin 8192) (j : Fin 256) : val_main_v8 (F := Ideal) x w (ix2 s j) = narrow (proj x w s) j := by
  unfold val_main_v8 val_main_v6 val_main_v7
  exact joined_at (proj x w) _ _ _ _ _ _ _ _ _ zero_border zero_border (rank_at x w) (step_at x w) s j

end Cert.InProjRefIdeal.Hand

namespace Cert.InProjValue

open Idealize.ShloMosaic Idealize.ShloMosaic.TcCoe Idealize.SL.Sem
open Cert.InProjIdeal Cert.InProjIdeal.Gen Cert.Rows

variable (m : (ℓ : Loc nD τ sig) → Buf (Elt Ideal) ℓ) (c : Dev nD)

/-- The tokens and the joined weights the program is given. -/
abbrev xArg : Vec Ideal S8192x2048 .f32 := m ((c : Thread nD τ).loc main_arg0)
abbrev wArg : Vec Ideal S2048x5664 .f32 := m ((c : Thread nD τ).loc main_arg1)

/-! The weight pieces the call reads. -/

theorem w1_at (e : Fin 2048) (k : Fin 3072) : V m c main_v1 (ix2 e k) = wArg m c (ix2 e (⟨k.val, by omega⟩ : Fin 5664)) := by
  have h : V m c main_v1 = (truncf .bf16 (extractStridedSlice S2048x3072 ![0, 0] (wArg m c) slices_S2048x5664_S2048x3072_0_0 : FVec Ideal S2048x3072 .f32) bitsLt_bf16_f32 : FVec Ideal S2048x3072 .bf16) := by
    unfold V
    simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
    after_results_simp <;> rfl
  rw [h]
  pointwise []

theorem wz_at (e : Fin 2048) (k : Fin 1024) : V m c main_v3 (ix2 e k) = wArg m c (ix2 e (⟨3088 + k.val, by omega⟩ : Fin 5664)) := by
  have h : V m c main_v3 = (truncf .bf16 (extractStridedSlice S2048x1024 ![0, 3088] (wArg m c) slices_S2048x5664_S2048x1024_0_3088 : FVec Ideal S2048x1024 .f32) bitsLt_bf16_f32 : FVec Ideal S2048x1024 .bf16) := by
    unfold V
    simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
    after_results_simp <;> rfl
  rw [h]
  pointwise []

theorem wx_at (e : Fin 2048) (k : Fin 1536) : V m c main_v5 (ix2 e k) = wArg m c (ix2 e (⟨4112 + k.val, by omega⟩ : Fin 5664)) := by
  have h : V m c main_v5 = (truncf .bf16 (extractStridedSlice S2048x1536 ![0, 4112] (wArg m c) slices_S2048x5664_S2048x1536_0_4112 : FVec Ideal S2048x1536 .f32) bitsLt_bf16_f32 : FVec Ideal S2048x1536 .bf16) := by
    unfold V
    simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
    after_results_simp <;> rfl
  rw [h]
  pointwise []

theorem ws_at (e : Fin 2048) (k : Fin 256) : V m c main_v11 (ix2 e k) = narrow (fun k => wArg m c (ix2 e k)) k := by
  have h : V m c main_v11 = (truncf .bf16 (concatenate S2048x256 1
      [⟨S2048x128, pad S2048x128 ![0, 0] ![0, 112] ![0, 0] (extractStridedSlice S2048x16 ![0, 3072] (wArg m c) slices_S2048x5664_S2048x16_0_3072 : FVec Ideal S2048x16 .f32)
          (sitofp .f32 (constantI S_ 32 0#32)) pads_S2048x16_S2048x128_000_01120 h_S_⟩,
        ⟨S2048x128, pad S2048x128 ![0, 0] ![0, 112] ![0, 0] (extractStridedSlice S2048x16 ![0, 5648] (wArg m c) slices_S2048x5664_S2048x16_0_5648 : FVec Ideal S2048x16 .f32)
          (sitofp .f32 (constantI S_ 32 0#32)) pads_S2048x16_S2048x128_000_01120 h_S_⟩]
      concatenates_S2048x128_S2048x128_S2048x256_d1 : FVec Ideal S2048x256 .f32) bitsLt_bf16_f32 : FVec Ideal S2048x256 .bf16) := by
    unfold V
    simp only [hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
    after_results_simp <;> rfl
  rw [h]
  refine joined_at (fun e k => wArg m c (ix2 e k)) _ _ _ _ pads_S2048x16_S2048x128_000_01120 pads_S2048x16_S2048x128_000_01120 h_S_ h_S_
    concatenates_S2048x128_S2048x128_S2048x256_d1 zero_border zero_border (fun s k => ?_) (fun s k => ?_) e k
  · pointwise []
  · pointwise []

/-! The four results are the reference's. -/

theorem value5 : out5 m c = Cert.InProjRefIdeal.Read.val_main_v1 (F := Ideal) (xArg m c) (wArg m c) := by
  funext y
  obtain ⟨s, j, rfl⟩ : ∃ (s : Fin 8192) (j : Fin 3072), y = ix2 s j := ⟨y 0, y 1, eq_ix2 y⟩
  refine Eq.trans ?_ (Cert.InProjRefIdeal.Hand.first_at _ _ s j).symm
  have e1 : (fun e k => V m c main_v1 (ix2 e k)) = _ := funext fun e => funext fun k => w1_at m c e k
  unfold out5
  rw [e1, V_main_arg0]
  rfl

theorem value6 : out6 m c = Cert.InProjRefIdeal.Read.val_main_v3 (F := Ideal) (xArg m c) (wArg m c) := by
  funext y
  obtain ⟨s, j, rfl⟩ : ∃ (s : Fin 8192) (j : Fin 1024), y = ix2 s j := ⟨y 0, y 1, eq_ix2 y⟩
  refine Eq.trans ?_ (Cert.InProjRefIdeal.Hand.z_at _ _ s j).symm
  have e1 : (fun e k => V m c main_v3 (ix2 e k)) = _ := funext fun e => funext fun k => wz_at m c e k
  unfold out6
  rw [e1, V_main_arg0]
  rfl

theorem value7 : out7 m c = Cert.InProjRefIdeal.Read.val_main_v4 (F := Ideal) (xArg m c) (wArg m c) := by
  funext y
  obtain ⟨s, j, rfl⟩ : ∃ (s : Fin 8192) (j : Fin 1536), y = ix2 s j := ⟨y 0, y 1, eq_ix2 y⟩
  refine Eq.trans ?_ (Cert.InProjRefIdeal.Hand.xbc_at _ _ s j).symm
  have e1 : (fun e k => V m c main_v5 (ix2 e k)) = _ := funext fun e => funext fun k => wx_at m c e k
  unfold out7
  rw [e1, V_main_arg0]
  rfl

theorem value8 : out8 m c = Cert.InProjRefIdeal.Read.val_main_v8 (F := Ideal) (xArg m c) (wArg m c) := by
  funext y
  obtain ⟨s, j, rfl⟩ : ∃ (s : Fin 8192) (j : Fin 256), y = ix2 s j := ⟨y 0, y 1, eq_ix2 y⟩
  refine Eq.trans ?_ (Cert.InProjRefIdeal.Hand.narrow_at _ _ s j).symm
  have e1 : (fun e k => V m c main_v11 (ix2 e k)) = fun e => narrow (fun k => wArg m c (ix2 e k)) := funext fun e => funext fun k => ws_at m c e k
  unfold out8
  rw [e1, V_main_arg0]
  exact rowMul_narrow _ _ j

end Cert.InProjValue
end
-- ==== Proof.IpClaims.lean ====
module

public import proofs.«01_k».proof.Defs
public import proofs.«01_k».proof.Proof.Gen.InProj.Frame
public import proofs.«01_k».proof.Proof.IpRef

/-! The claims about the in-projection program. -/

@[expose] public section

noncomputable section

namespace Cert.InProjEq

open Idealize.ShloMosaic Idealize.SL.Sem

/-- The kernel as written terminates and leaves its arguments and the counters as they were. -/
theorem frame_kernel : Cert.quiescent_InProj := fun m ρ _ => Cert.InProj.Gen.frame m ρ

/-- So does the kernel over the extended reals. -/
theorem frame_ideal : Cert.quiescent_InProjIdeal := fun m ρ _ => Cert.InProjIdeal.Gen.frame m ρ

/-- So does the reference. -/
theorem frame_reference : Cert.quiescent_InProjRefIdeal := fun m ρ _ =>
  (θ_run _ _ _).mono (fun r h => ⟨fun c => (h c).2.2.2.2, sem_eq_zero_of_no_sems (by decide) r.2⟩) (Cert.InProjRefIdeal.Value.run m ρ)

/-- Over the extended reals the kernel and the reference end with the same four results. -/
theorem algebraic : Cert.algebraic_InProjIdeal_InProjRefIdeal := by
  intro m g m' g' _ hagree
  refine ⟨fun c => Cert.InProjValue.out5 m c, fun c => Cert.InProjValue.out6 m c, fun c => Cert.InProjValue.out7 m c, fun c => Cert.InProjValue.out8 m c,
    (θ_run _ _ _).mono (fun _ h c => ⟨(h.1 c).1, (h.1 c).2.1, (h.1 c).2.2.1, (h.1 c).2.2.2, h.2 c⟩)
      (θ_run_and (Cert.InProjValue.run_value m g) (Cert.InProjIdeal.Gen.unchanged m g)),
    (θ_run _ _ _).mono (fun _ h c => ⟨(h c).1.trans ?_, (h c).2.1.trans ?_, (h c).2.2.1.trans ?_, (h c).2.2.2.1.trans ?_, (h c).2.2.2.2⟩)
      (Cert.InProjRefIdeal.Value.run m' g')⟩
  all_goals obtain ⟨e0, e1⟩ := hagree c
  · rw [Cert.InProjRefIdeal.Read.val_main_v1_eq, e0, e1]; exact (Cert.InProjValue.value5 m c).symm
  · rw [Cert.InProjRefIdeal.Read.val_main_v3_eq, e0, e1]; exact (Cert.InProjValue.value6 m c).symm
  · rw [Cert.InProjRefIdeal.Read.val_main_v4_eq, e0, e1]; exact (Cert.InProjValue.value7 m c).symm
  · rw [Cert.InProjRefIdeal.Read.val_main_v8_eq, e0, e1]; exact (Cert.InProjValue.value8 m c).symm

end Cert.InProjEq
end
-- ==== Proof.PlBlocks.lean ====
module

public import proofs.«01_k».proof.Proof.Gen.ProjLnIdeal.Frame
public import proofs.«01_k».proof.Proof.Rows
public import Idealize.ShloMosaic.Lib.Pipeline.ValueKit
public import Idealize.ShloMosaic.Lib.Pointwise

/-! The out-projection with its layer norm: what a grid point writes, and the array the call leaves. -/

@[expose] public section

set_option maxRecDepth 16384

noncomputable section

namespace Cert.ProjLnValue

open Idealize.ShloMosaic Idealize.ShloMosaic.TcCoe Idealize.SL.Sem
open Cert.ProjLnIdeal Cert.ProjLnIdeal.Gen Cert.Rows

/-- One token: its mixed row through the out-projection, added to the scaled input and normalized. -/
def projRow (a x : Fin 2048 → EReal) (w : Fin 2048 → Fin 2048 → EReal) (g b : Fin 2048 → EReal) : Fin 2048 → EReal :=
  layerNorm (skipAdd x (rowMul a w)) g b

/-- The block a grid point writes, at a row and a column. -/
theorem pay_at (a : Vec Ideal S512x2048 .bf16) (w : Vec Ideal S2048x2048 .bf16) (x : Vec Ideal S512x2048 .f32) (g b : Vec Ideal S1x2048 .f32)
    (r : Fin 512) (j : Fin 2048) : k0_pay1 a w x g b (ix2 r j)
      = projRow (fun k => a (ix2 r k)) (fun k => x (ix2 r k)) (fun e k => w (ix2 e k)) (fun k => g (ix2 0 k)) (fun k => b (ix2 0 k)) j := by
  pointwise [k0_pay1]
  simp only [projRow, layerNorm, skipAdd, rowMul, mean]

/-- The windows' blocks: a row block of the mixed rows, of the input and of the result, everything else whole. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] :=
  (by decide +kernel : ∀ t : Fin grid0.N, _)

theorem lt_point (t : Fin cfg0.N) : t.val < 16 := by
  have h : cfg0.N = 16 := by decide
  exact h ▸ t.isLt

/-- The token in row `r` of point `t`'s block. -/
def rowOf (t : Fin cfg0.N) (r : Fin 512) : Fin 8192 := ⟨512 * t.val + r.val, by have := lt_point t; omega⟩

variable (m : (ℓ : Loc nD τ sig) → Buf (Elt Ideal) ℓ) (ρ : Dev nD → PrngReg) (c : Dev nD)

theorem b0 (t : Fin cfg0.N) (r : Fin 512) (k : Fin 2048) : iblk m c 0 t (ix2 r k) = V m c main_arg0 (ix2 (rowOf t r) k) := by
  unfold rowOf; blk_ext [iblk, idx t]
theorem b2 (t : Fin cfg0.N) (r : Fin 512) (k : Fin 2048) : iblk m c 2 t (ix2 r k) = V m c main_arg2 (ix2 (rowOf t r) k) := by
  unfold rowOf; blk_ext [iblk, idx t]
theorem b1 (t : Fin cfg0.N) : (iblk m c 1 t : Vec Ideal S2048x2048 .bf16) = V m c main_v0 := by
  funext y; blk_ext [iblk, idx t]
theorem b3 (t : Fin cfg0.N) : (iblk m c 3 t : Vec Ideal S1x2048 .f32) = V m c main_v1 := by
  funext y; blk_ext [iblk, idx t]
theorem b4 (t : Fin cfg0.N) : (iblk m c 4 t : Vec Ideal S1x2048 .f32) = V m c main_v2 := by
  funext y; blk_ext [iblk, idx t]

/-- The call's result array, as a function of the arrays it reads. -/
def projOut (a : Vec Ideal S8192x2048 .bf16) (w : Vec Ideal S2048x2048 .bf16) (x : Vec Ideal S8192x2048 .f32) (g b : Vec Ideal S1x2048 .f32) :
    Vec Ideal S8192x2048 .f32 := fun y : S8192x2048.Idx =>
  projRow (fun k => a (ix2 (y 0) k)) (fun k => x (ix2 (y 0) k)) (fun e k => w (ix2 e k)) (fun k => g (ix2 0 k)) (fun k => b (ix2 0 k)) (y 1)

/-- After the call its result array holds every token's projected and normalized row. -/
theorem final : (dats m 0 c).arrAt 5 cfg0.N = projOut (V m c main_arg0) (V m c main_v0) (V m c main_arg2) (V m c main_v1) (V m c main_v2) := by
  refine (dats m 0 c).arrAt_eq_of_covers 5 _ (by decide +kernel) fun t hf y => ?_
  blk_simp
  rw [after0_5]
  frame_out
  obtain ⟨r, j, rfl⟩ : ∃ r j, y = ix2 r j := ⟨y 0, y 1, eq_ix2 y⟩
  refine (pay_at _ _ _ _ _ r j).trans ?_
  have e0 : (fun k => iblk m c 0 t (ix2 r k)) = fun k => V m c main_arg0 (ix2 (rowOf t r) k) := funext fun k => b0 m c t r k
  have e2 : (fun k => iblk m c 2 t (ix2 r k)) = fun k => V m c main_arg2 (ix2 (rowOf t r) k) := funext fun k => b2 m c t r k
  have he : (win0_5.blk t).view.emb (ix2 r j) = ix2 (rowOf t r) j := by
    unfold rowOf; blk_ext [idx t]
  rw [he, e0, e2, b1, b3, b4]
  rfl

/-- Every execution ends with the result array at `projOut` of the arguments. -/
theorem run_value : θ_run defs (onTc (τ := τ) (main (F := Ideal))) ⟨m, fun _ => 0, ρ⟩ (fun r => ∀ c : Dev nD,
      r.2.mem ((c.tc : Thread nD τ).loc main_v3)
        = projOut (V m c main_arg0) (V m c main_v0) (V m c main_arg2) (V m c main_v1) (V m c main_v2)) :=
  (θ_run defs _ _).mono (fun _ h c => ((h c).1 5).trans (final m c)) (run_main m ρ)

end Cert.ProjLnValue
end
-- ==== Proof.PlRef.lean ====
module

public import proofs.«01_k».proof.Proof.Gen.ProjLnRefIdeal.Read
public import proofs.«01_k».proof.Proof.PlBlocks

/-! The reference of the out-projection, read at an entry, and the equation of the two results. -/

@[expose] public section

set_option maxRecDepth 16384

noncomputable section

namespace Cert.ProjLnRefIdeal.Hand

open Idealize.ShloMosaic Idealize.ShloMosaic.TcCoe
open Cert.ProjLnRefIdeal Cert.ProjLnRefIdeal.Gen Cert.ProjLnRefIdeal.Read Cert.Rows

variable (a : Vec Ideal S8192x2048 .bf16) (w : Vec Ideal S2048x2048 .f32) (x : Vec Ideal S8192x2048 .f32) (g b : Vec Ideal S2048 .f32)

/-- A token's row before the normalization. -/
def pre (s : Fin 8192) : Fin 2048 → EReal := skipAdd (fun k => x (ix2 s k)) (rowMul (fun k => a (ix2 s k)) (fun e k => w (ix2 e k)))

/-- The reference's residual rows. -/
theorem pre_at (s : Fin 8192) (k : Fin 2048) : val_main_v4 (F := Ideal) a w x (ix2 s k) = pre a w x s k := by
  rw [val_main_v4_apply, val_main_v1_apply, val_main_v0_apply, val_main_cst_apply, val_main_v3_apply]
  refine congrArg (_ + ·) (Finset.sum_congr rfl fun e _ => ?_)
  have hl : lidx_main_v3 (ix2 s k) e = ix2 s e := by funext a; fin_cases a <;> rfl
  have hr : ridx_main_v3 (ix2 s k) e = ix2 e k := by funext a; fin_cases a <;> rfl
  rw [hl, hr, val_main_v2_apply]
  rfl

/-- The reference's row means. -/
theorem mean_at (s : Fin 8192) (z : Fin 1) : val_main_v8 (F := Ideal) a w x (ix2 s z) = mean (pre a w x s) := by
  rw [val_main_v8_apply, val_main_v7_apply, val_main_cst_1_apply, val_main_v6_apply, val_main_v5_apply, val_main_cst_0_apply]
  simp only [Ideal.hostDivf_def, Ideal.ofBits_def, Ideal.ofBits_zero_f32, zero_add, mean]
  refine congrArg₂ _ (Finset.sum_congr rfl fun k _ => ?_) rfl
  have hi : idx_main_v5 (idx_main_v6 (ix2 s z)) k = ix2 s k := by funext a; fin_cases a <;> rfl
  rw [hi, pre_at]

/-- The reference's row variances. -/
theorem var_at (s : Fin 8192) (z : Fin 1) : val_main_v15 (F := Ideal) a w x (ix2 s z)
    = mean (fun k => (pre a w x s k - mean (pre a w x s)) * (pre a w x s k - mean (pre a w x s))) := by
  rw [val_main_v15_apply, val_main_v14_apply, val_main_cst_3_apply, val_main_v13_apply, val_main_v12_apply, val_main_cst_2_apply]
  simp only [Ideal.hostDivf_def, Ideal.ofBits_def, Ideal.ofBits_zero_f32, zero_add]
  refine congrArg₂ _ (Finset.sum_congr rfl fun k _ => ?_) rfl
  have hi : idx_main_v12 (idx_main_v13 (ix2 s z)) k = ix2 s k := by funext a; fin_cases a <;> rfl
  have hm : idx_main_v9 (ix2 s k) = ix2 s (0 : Fin 1) := by funext a; fin_cases a <;> rfl
  rw [hi, val_main_v11_apply, val_main_v10_apply, val_main_v9_apply, hm, mean_at, pre_at]
  rfl

/-- The reference's result, at a token and a feature. -/
theorem result_at (s : Fin 8192) (j : Fin 2048) : val_main_v28 (F := Ideal) a w x g b (ix2 s j)
    = Cert.ProjLnValue.projRow (fun k => a (ix2 s k)) (fun k => x (ix2 s k)) (fun e k => w (ix2 e k)) (fun k => g (ix1 k)) (fun k => b (ix1 k)) j := by
  have hm : idx_main_v16 (ix2 s j) = ix2 s (0 : Fin 1) := by funext a; fin_cases a <;> rfl
  have hv : idx_main_v21 (ix2 s j) = ix2 s (0 : Fin 1) := by funext a; fin_cases a <;> rfl
  have hg : idx_main_v23 (idx_main_v24 (ix2 s j)) = ix1 j := by funext a; fin_cases a; rfl
  have hb : idx_main_v26 (idx_main_v27 (ix2 s j)) = ix1 j := by funext a; fin_cases a; rfl
  rw [val_main_v28_apply, val_main_v27_apply, val_main_v26_apply, hb, val_main_v25_apply, val_main_v24_apply, val_main_v23_apply, hg, val_main_v22_apply,
    val_main_v21_apply, hv, val_main_v20_apply, val_main_v19_apply, var_at, val_main_v18_apply, val_main_cst_4_apply, val_main_v17_apply,
    val_main_v16_apply, hm, mean_at, pre_at]
  rfl

end Cert.ProjLnRefIdeal.Hand

namespace Cert.ProjLnValue

open Idealize.ShloMosaic Idealize.ShloMosaic.TcCoe Idealize.SL.Sem
open Cert.ProjLnIdeal Cert.ProjLnIdeal.Gen Cert.Rows

variable (m : (ℓ : Loc nD τ sig) → Buf (Elt Ideal) ℓ) (c : Dev nD)

theorem weight_at (e k : Fin 2048) : V m c main_v0 (ix2 e k) = (m ((c : Thread nD τ).loc main_arg1) : Vec Ideal S2048x2048 .f32) (ix2 e k) := by
  have h : V m c main_v0 = (truncf .bf16 (m ((c : Thread nD τ).loc main_arg1) : FVec Ideal S2048x2048 .f32) bitsLt_bf16_f32 : FVec Ideal S2048x2048 .bf16) := by
    unfold V; after_results_simp <;> rfl
  rw [h]
  rfl

theorem gain_at (k : Fin 2048) : V m c main_v1 (ix2 0 k) = (m ((c : Thread nD τ).loc main_arg3) : Vec Ideal S2048 .f32) (ix1 k) := by
  have h : V m c main_v1 = shapeCast S1x2048 (m ((c : Thread nD τ).loc main_arg3) : Vec Ideal S2048 .f32) shapeCasts_S2048_S1x2048 := by
    unfold V; after_results_simp <;> rfl
  rw [h]
  pointwise []

theorem bias_at (k : Fin 2048) : V m c main_v2 (ix2 0 k) = (m ((c : Thread nD τ).loc main_arg4) : Vec Ideal S2048 .f32) (ix1 k) := by
  have h : V m c main_v2 = shapeCast S1x2048 (m ((c : Thread nD τ).loc main_arg4) : Vec Ideal S2048 .f32) shapeCasts_S2048_S1x2048 := by
    unfold V; after_results_simp <;> rfl
  rw [h]
  pointwise []

/-- The kernel's result array is the reference's. -/
theorem value_eq : projOut (V m c main_arg0) (V m c main_v0) (V m c main_arg2) (V m c main_v1) (V m c main_v2)
    = Cert.ProjLnRefIdeal.Read.val_main_v28 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  funext y
  obtain ⟨s, j, rfl⟩ : ∃ (s : Fin 8192) (j : Fin 2048), y = ix2 s j := ⟨y 0, y 1, eq_ix2 y⟩
  refine Eq.trans ?_ (Cert.ProjLnRefIdeal.Hand.result_at _ _ _ _ _ s j).symm
  have e1 : (fun e k => V m c main_v0 (ix2 e k)) = _ := funext fun e => funext fun k => weight_at m c e k
  have e3 : (fun k => V m c main_v1 (ix2 0 k)) = _ := funext fun k => gain_at m c k
  have e4 : (fun k => V m c main_v2 (ix2 0 k)) = _ := funext fun k => bias_at m c k
  unfold projOut
  rw [e1, e3, e4, V_main_arg0, V_main_arg2]
  rfl

end Cert.ProjLnValue
end
-- ==== Proof.PlClaims.lean ====
module

public import proofs.«01_k».proof.Defs
public import proofs.«01_k».proof.Proof.Gen.ProjLn.Frame
public import proofs.«01_k».proof.Proof.PlRef

/-! The claims about the out-projection program. -/

@[expose] public section

noncomputable section

namespace Cert.ProjLnEq

open Idealize.ShloMosaic Idealize.SL.Sem

/-- The kernel as written terminates and leaves its arguments and the counters as they were. -/
theorem frame_kernel : Cert.quiescent_ProjLn := fun m ρ _ => Cert.ProjLn.Gen.frame m ρ

/-- So does the kernel over the extended reals. -/
theorem frame_ideal : Cert.quiescent_ProjLnIdeal := fun m ρ _ => Cert.ProjLnIdeal.Gen.frame m ρ

/-- So does the reference. -/
theorem frame_reference : Cert.quiescent_ProjLnRefIdeal := fun m ρ _ =>
  (θ_run _ _ _).mono (fun r h => ⟨fun c => (h c).2, sem_eq_zero_of_no_sems (by decide) r.2⟩) (Cert.ProjLnRefIdeal.Value.run m ρ)

/-- Over the extended reals the kernel and the reference end with the same result. -/
theorem algebraic : Cert.algebraic_ProjLnIdeal_ProjLnRefIdeal := by
  intro m g m' g' _ hagree
  refine ⟨fun c => Cert.ProjLnValue.projOut _ _ _ _ _,
    (θ_run _ _ _).mono (fun _ h c => ⟨h.1 c, h.2 c⟩) (θ_run_and (Cert.ProjLnValue.run_value m g) (Cert.ProjLnIdeal.Gen.unchanged m g)),
    (θ_run _ _ _).mono (fun _ h c => ⟨(h c).1.trans ?_, (h c).2⟩) (Cert.ProjLnRefIdeal.Value.run m' g')⟩
  rw [Cert.ProjLnRefIdeal.Read.val_main_v28_eq]
  obtain ⟨e0, e1, e2, e3, e4⟩ := hagree c
  rw [e0, e1, e2, e3, e4]
  exact (Cert.ProjLnValue.value_eq m c).symm

end Cert.ProjLnEq
end
-- ==== Proof.XaPoint.lean ====
module

public import proofs.«01_k».proof.Proof.Gen.XAttnIdeal.Frame
public import proofs.«01_k».proof.Proof.Rows
public import Idealize.ShloMosaic.Lib.Pipeline.ValueKit
public import Idealize.ShloMosaic.Lib.Pointwise

@[expose] public section

set_option maxRecDepth 16384

noncomputable section

namespace Cert.XAttnIdeal.Hand

open Idealize.ShloMosaic Idealize.ShloMosaic.TcCoe Idealize.SL.Sem
open Cert.XAttnIdeal Cert.XAttnIdeal.Gen Cert.Rows

/-- The block a grid point of the attention call writes, at a row and a column: the normalized residual of the attention rows held in the scratch. -/
theorem pay1_at (x : Vec Ideal S512x2048 .f32) (att : Vec Ideal S512x2048 .bf16) (wo : Vec Ideal S2048x2048 .bf16)
    (g b : Vec Ideal S1x2048 .f32) (r : Fin 512) (j : Fin 2048) :
    k1_pay1 (k1_pay9 x att wo) (k1_pay10 g) (k1_pay11 b) (k1_pay12 x att wo) (Scalar.ofBits .f32 0x45000000#32) (ix2 r j)
      = layerNorm (skipAdd (fun k => x (ix2 r k)) (rowMul (fun k => att (ix2 r k)) (fun e k => wo (ix2 e k))))
          (fun k => g (ix2 0 k)) (fun k => b (ix2 0 k)) j := by
  pointwise [k1_pay1, k1_pay9, k1_pay10, k1_pay11, k1_pay12]
  simp only [layerNorm, skipAdd, rowMul, mean]

/-- One head's softmax attention of a row, written out. -/
def headRow (x : Fin 2048 → EReal) (wq : Fin 2048 → Fin 2048 → EReal) (K V : Fin 256 → Fin 512 → EReal) (h : Fin 4) (d : Fin 512) : EReal :=
  ∑ m, softmax (fun m => (∑ e, rowMul x wq (headCol h e) * K m e) * Ideal.ofBits FTy.f32 1026884851#32) m * V m d

theorem pay3_at (x : Vec Ideal S512x2048 .f32) (wq : Vec Ideal S2048x2048 .bf16) (k v : Vec Ideal S256x512 .bf16)
     (r : Fin 512) (j : Fin 512) :
    k1_pay3 x wq k v (ix2 r j) = headRow (fun k => x (ix2 r k)) (fun e k => wq (ix2 e k)) (fun m d => k (ix2 m d)) (fun m d => v (ix2 m d)) 0 j := by
  pointwise [k1_pay3, k1_pay2]
  have hc : ∀ e : Fin 512, headCol 0 e = ⟨e.val, by omega⟩ := fun e => Fin.ext (by simp [headCol])
  simp only [headRow, softmax, rowMul, hc]

theorem pay6_at (x : Vec Ideal S512x2048 .f32) (wq : Vec Ideal S2048x2048 .bf16) (k v : Vec Ideal S256x512 .bf16)
     (r : Fin 512) (j : Fin 512) :
    k1_pay6 (k1_pay4 v) (k1_pay5 x wq k) (Scalar.ofBits .f32 1026884851#32) (ix2 r j) = headRow (fun k => x (ix2 r k)) (fun e k => wq (ix2 e k)) (fun m d => k (ix2 m d)) (fun m d => v (ix2 m d)) 1 j := by
  pointwise [k1_pay6, k1_pay4, k1_pay5, k1_pay2]
  have hc : ∀ e : Fin 512, headCol 1 e = ⟨512 + e.val, by omega⟩ := fun e => Fin.ext (by simp [headCol])
  simp only [headRow, softmax, rowMul, hc]

theorem pay7_at (x : Vec Ideal S512x2048 .f32) (wq : Vec Ideal S2048x2048 .bf16) (k v : Vec Ideal S256x512 .bf16)
     (r : Fin 512) (j : Fin 512) :
    k1_pay7 (k1_pay2 x wq) k v (ix2 r j) = headRow (fun k => x (ix2 r k)) (fun e k => wq (ix2 e k)) (fun m d => k (ix2 m d)) (fun m d => v (ix2 m d)) 2 j := by
  pointwise [k1_pay7, k1_pay2]
  have hc : ∀ e : Fin 512, headCol 2 e = ⟨1024 + e.val, by omega⟩ := fun e => Fin.ext (by simp [headCol])
  simp only [headRow, softmax, rowMul, hc]

theorem pay8_at (x : Vec Ideal S512x2048 .f32) (wq : Vec Ideal S2048x2048 .bf16) (k v : Vec Ideal S256x512 .bf16)
     (r : Fin 512) (j : Fin 512) :
    k1_pay8 (k1_pay2 x wq) k v (ix2 r j) = headRow (fun k => x (ix2 r k)) (fun e k => wq (ix2 e k)) (fun m d => k (ix2 m d)) (fun m d => v (ix2 m d)) 3 j := by
  pointwise [k1_pay8, k1_pay2]
  have hc : ∀ e : Fin 512, headCol 3 e = ⟨1536 + e.val, by omega⟩ := fun e => Fin.ext (by simp [headCol])
  simp only [headRow, softmax, rowMul, hc]

/-- The keys of memory token `m`, read off the joined key and value rows. -/
def keyOf (kv : Vec Ideal S256x4096 .bf16) (m : Fin 256) (d : Fin 2048) : EReal := kv (ix2 m ⟨d.val, by omega⟩)

/-- The values of memory token `m`, read off the joined key and value rows. -/
def valOf (kv : Vec Ideal S256x4096 .bf16) (m : Fin 256) (d : Fin 2048) : EReal := kv (ix2 m ⟨2048 + d.val, by omega⟩)

/-- What head `h` computes from its slices of the keys and values is the attention row at the head's columns. -/
theorem headRow_eq (x : Fin 2048 → EReal) (wq : Fin 2048 → Fin 2048 → EReal) (kv : Vec Ideal S256x4096 .bf16) (K V : Fin 256 → Fin 512 → EReal)
    (h : Fin 4) (hK : ∀ m d, K m d = keyOf kv m (headCol h d)) (hV : ∀ m d, V m d = valOf kv m (headCol h d)) (d : Fin 512) (j : Fin 2048)
    (hj : j = headCol h d) : headRow x wq K V h d = attend (rowMul x wq) (keyOf kv) (valOf kv) j := by
  have e : headOf (headCol h d) = h := Fin.ext (by simp only [headOf, headCol]; omega)
  subst hj
  simp only [headRow, attend, score, hK, hV, e]
  rfl

/-- A load of 512 columns of the keys and values, at a row and a column. -/
theorem ld_at (kv : Vec Ideal S256x4096 .bf16) (o : Nat) (inb) (m : Fin 256) (d : Fin 512) (i : Fin 4096) (hi : i.val = o + d.val) :
    View.ld kv (Rect.unit (s := S256x4096) (![0, o] : Fin 2 → Nat) (![256, 512] : Fin 2 → Nat) inb) (ix2 m d) = kv (ix2 m i) :=
  View.ld_unit_apply_of _ _ _ _ _ (ix2 m i) (fun a => by fin_cases a <;> simp [ix2, hi])

/-- The attention scratch after the four heads have stored their columns: the attention row of each row of the block. -/
theorem scratch_eq (x : Vec Ideal S512x2048 .f32) (wq : Vec Ideal S2048x2048 .bf16) (kv : Vec Ideal S256x4096 .bf16) :
    ((View.whole cc1_scratch0).readCov (Val := Elt Ideal)
          [⟨Rect.unit ![0, 1536] ![512, 512] inb_S512x2048_S512x512_0_1536,
              k1_pay8 (k1_pay2 x wq)
                (View.ld kv (Rect.unit ![0, 1536] ![256, 512] inb_S256x4096_S256x512_0_1536))
                (View.ld kv (Rect.unit ![0, 3584] ![256, 512] inb_S256x4096_S256x512_0_3584))⟩,
            ⟨Rect.unit ![0, 1024] ![512, 512] inb_S512x2048_S512x512_0_1024,
              k1_pay7 (k1_pay2 x wq)
                (View.ld kv (Rect.unit ![0, 1024] ![256, 512] inb_S256x4096_S256x512_0_1024))
                (View.ld kv (Rect.unit ![0, 3072] ![256, 512] inb_S256x4096_S256x512_0_3072))⟩,
            ⟨Rect.unit ![0, 512] ![512, 512] inb_S512x2048_S512x512_0_512,
              k1_pay6
                (k1_pay4 (View.ld kv (Rect.unit ![0, 2560] ![256, 512] inb_S256x4096_S256x512_0_2560)))
                (k1_pay5 x wq
                  (View.ld kv (Rect.unit ![0, 512] ![256, 512] inb_S256x4096_S256x512_0_512)))
                (FloatOps.ofBits FTy.f32 1026884851#32)⟩,
            ⟨Rect.unit ![0, 0] ![512, 512] inb_S512x2048_S512x512_0_0,
              k1_pay3 x wq
                (View.ld kv (Rect.unit ![0, 0] ![256, 512] inb_S256x4096_S256x512_0_0))
                (View.ld kv (Rect.unit ![0, 2048] ![256, 512] inb_S256x4096_S256x512_0_2048))⟩]
          (Rect.unit (s := S512x2048) (![0, 0] : Fin 2 → Nat) (![512, 2048] : Fin 2 → Nat) inb_S512x2048_S512x2048_0_0).toLoadRect : Vec Ideal S512x2048 .bf16)
      = fun y : S512x2048.Idx => attend (rowMul (fun k => x (ix2 (y 0) k)) (fun e k => wq (ix2 e k))) (keyOf kv) (valOf kv) (y 1) := by
  rw [View.readCov_eq_canon']
  have hy : ∀ y : S512x2048.Idx, (Rect.unit (s := S512x2048) (![0, 0] : Fin 2 → Nat) (![512, 2048] : Fin 2 → Nat) inb_S512x2048_S512x2048_0_0).idx y = y :=
    fun y => funext fun a => Fin.ext (by fin_cases a <;> simp)
  funext y
  obtain ⟨r, j, rfl⟩ : ∃ r j, y = ix2 r j := ⟨y 0, y 1, eq_ix2 y⟩
  refine (congrArg (View.canon (Val := Elt Ideal) _) (hy (ix2 r j))).trans ?_
  change _ = attend (rowMul (fun k => x (ix2 r k)) (fun e k => wq (ix2 e k))) (keyOf kv) (valOf kv) j
  canon_tiles z h
  all_goals
    obtain ⟨r', j', rfl⟩ : ∃ r j, z = ix2 r j := ⟨z 0, z 1, eq_ix2 z⟩
    obtain rfl : r = r' := Fin.ext h0
  · exact (pay8_at x wq _ _ r j').trans (headRow_eq _ _ kv _ _ 3 (fun m d => ld_at kv _ _ m d _ (by simp [headCol]))
      (fun m d => ld_at kv _ _ m d _ (by simp [headCol]; omega)) j' j (Fin.ext (h1.trans (by simp [headCol]))))
  · exact (pay7_at x wq _ _ r j').trans (headRow_eq _ _ kv _ _ 2 (fun m d => ld_at kv _ _ m d _ (by simp [headCol]))
      (fun m d => ld_at kv _ _ m d _ (by simp [headCol]; omega)) j' j (Fin.ext (h1.trans (by simp [headCol]))))
  · exact (pay6_at x wq _ _ r j').trans (headRow_eq _ _ kv _ _ 1 (fun m d => ld_at kv _ _ m d _ (by simp [headCol]))
      (fun m d => ld_at kv _ _ m d _ (by simp [headCol]; omega)) j' j (Fin.ext (h1.trans (by simp [headCol]))))
  · exact (pay3_at x wq _ _ r j').trans (headRow_eq _ _ kv _ _ 0 (fun m d => ld_at kv _ _ m d _ (by simp [headCol]))
      (fun m d => ld_at kv _ _ m d _ (by simp [headCol])) j' j (Fin.ext (h1.trans (by simp [headCol]))))

variable (V : (c : Dev nD) → (b : Ref sig .tc) → Buf (Elt Ideal) ((c : Thread nD τ).loc b))

theorem outsAt_at (c : Dev nD) (t : Fin cfg1.N) (r : Fin 512) (j : Fin 2048) : outsAt1 V c t (ix2 r j)
    = xattn (fun k => iblk1 V c 0 t (ix2 r k)) (fun e k => iblk1 V c 1 t (ix2 e k)) (keyOf (iblk1 V c 2 t)) (valOf (iblk1 V c 2 t))
        (fun e k => iblk1 V c 3 t (ix2 e k)) (fun k => iblk1 V c 4 t (ix2 0 k)) (fun k => iblk1 V c 5 t (ix2 0 k)) j := by
  unfold outsAt1
  frame_out
  generalize hA : View.readCov (Val := Elt Ideal) _ _ _ = A
  have hA' := hA.symm.trans (scratch_eq (iblk1 V c 0 t) (iblk1 V c 1 t) (iblk1 V c 2 t))
  subst hA'
  exact pay1_at _ _ _ _ _ r j

end Cert.XAttnIdeal.Hand
end
-- ==== Proof.XaBlocks.lean ====
module

public import proofs.«01_k».proof.Proof.XaPoint

/-!
  The two regions of the cross-attention program as arrays: what the key and value projection leaves in its result array, and what the attention
  call leaves in its own, as functions of the arrays the regions read.
-/

@[expose] public section

set_option maxRecDepth 16384

noncomputable section

namespace Cert.XAttnIdeal.Hand

open Idealize.ShloMosaic Idealize.ShloMosaic.TcCoe Idealize.SL.Sem
open Cert.XAttnIdeal Cert.XAttnIdeal.Gen Cert.Rows

variable (V : (c : Dev nD) → (b : Ref sig .tc) → Buf (Elt Ideal) ((c : Thread nD τ).loc b))

/-- The blocks of the projection's windows: the memory whole, a column block of the weights and of the result. -/
theorem idx0 : ∀ t : Fin cfg0.N, win0_0.index t = ![0, 0] ∧ win0_1.index t = ![0, t.val] ∧ win0_2.index t = ![0, t.val] :=
  (by decide +kernel : ∀ t : Fin grid0.N, _)

/-- The blocks of the attention's windows: a row block of the input and of the result, everything else whole. -/
theorem idx1 : ∀ t : Fin cfg1.N, win1_0.index t = ![t.val, 0] ∧ win1_1.index t = ![0, 0] ∧ win1_2.index t = ![0, 0] ∧ win1_3.index t = ![0, 0]
    ∧ win1_4.index t = ![0, 0] ∧ win1_5.index t = ![0, 0] ∧ win1_6.index t = ![t.val, 0] :=
  (by decide +kernel : ∀ t : Fin grid1.N, _)

/-- The projected keys and values: the product of the memory rows and the joined weights. -/
def kvOut (mem : Vec Ideal S256x2048 .f32) (w : Vec Ideal S2048x4096 .bf16) : Vec Ideal S256x4096 .bf16 :=
  fun y : S256x4096.Idx => rowMul (fun k => mem (ix2 (y 0) k)) (fun e k => w (ix2 e k)) (y 1)

/-- The block a grid point of the projection writes is the block of the product. -/
theorem kv_point (x : Vec Ideal S256x2048 .f32) (w : Vec Ideal S2048x1024 .bf16) (r : Fin 256) (j : Fin 1024) :
    k0_pay1 x w (ix2 r j) = rowMul (fun k => x (ix2 r k)) (fun e k => w (ix2 e k)) j := by
  pointwise [k0_pay1]
  simp only [rowMul]

theorem lt0 (t : Fin cfg0.N) : t.val < 4 := by
  have h : cfg0.N = 4 := by decide
  exact h ▸ t.isLt

/-- After the projection its result array holds the product. -/
theorem kv_final (c : Dev nD) : (dat0 V c).arrAt 2 cfg0.N = kvOut (V c main_arg1) (V c main_v1) := by
  refine (dat0 V c).arrAt_eq_of_covers 2 _ (by decide +kernel) fun t hf y => ?_
  blk_simp
  rw [after0_2]
  frame_out
  obtain ⟨r, j, rfl⟩ : ∃ r j, y = ix2 r j := ⟨y 0, y 1, eq_ix2 y⟩
  refine (kv_point _ _ r j).trans ?_
  have e0 : (fun k => iblk0 V c 0 t (ix2 r k)) = fun k => V c main_arg1 (ix2 r k) := funext fun k => by blk_ext [iblk0, idx0 t]
  have e1 : (fun e k => iblk0 V c 1 t (ix2 e k)) = fun (e : Fin 2048) (k : Fin 1024) => V c main_v1 (ix2 e (⟨1024 * t.val + k.val, by have := lt0 t; omega⟩ : Fin 4096)) :=
    funext fun e => funext fun k => by blk_ext [iblk0, idx0 t]
  have he : ((View.whole main_v2).slice (win0_2.rect t)).emb (ix2 r j) = ix2 r (⟨1024 * t.val + j.val, by have := lt0 t; omega⟩ : Fin 4096) := by
    blk_ext [idx0 t]
  rw [he, e0, e1]
  rfl

/-- The result array of the attention call, as a function of the arrays it reads. -/
def xaOut (x : Vec Ideal S8192x2048 .f32) (wq : Vec Ideal S2048x2048 .bf16) (kv : Vec Ideal S256x4096 .bf16) (wo : Vec Ideal S2048x2048 .bf16)
    (g b : Vec Ideal S1x2048 .f32) : Vec Ideal S8192x2048 .f32 := fun y : S8192x2048.Idx =>
  xattn (fun k => x (ix2 (y 0) k)) (fun e k => wq (ix2 e k)) (keyOf kv) (valOf kv) (fun e k => wo (ix2 e k)) (fun k => g (ix2 0 k))
    (fun k => b (ix2 0 k)) (y 1)

theorem b1_1 (c : Dev nD) (t : Fin cfg1.N) : (iblk1 V c 1 t : Vec Ideal S2048x2048 .bf16) = V c main_v3 := by
  funext y; blk_ext [iblk1, idx1 t]
theorem b1_2 (c : Dev nD) (t : Fin cfg1.N) : (iblk1 V c 2 t : Vec Ideal S256x4096 .bf16) = V c main_v2 := by
  funext y; blk_ext [iblk1, idx1 t]
theorem b1_3 (c : Dev nD) (t : Fin cfg1.N) : (iblk1 V c 3 t : Vec Ideal S2048x2048 .bf16) = V c main_v4 := by
  funext y; blk_ext [iblk1, idx1 t]
theorem b1_4 (c : Dev nD) (t : Fin cfg1.N) : (iblk1 V c 4 t : Vec Ideal S1x2048 .f32) = V c main_v5 := by
  funext y; blk_ext [iblk1, idx1 t]
theorem b1_5 (c : Dev nD) (t : Fin cfg1.N) : (iblk1 V c 5 t : Vec Ideal S1x2048 .f32) = V c main_v6 := by
  funext y; blk_ext [iblk1, idx1 t]
theorem lt1 (t : Fin cfg1.N) : t.val < 16 := by
  have h : cfg1.N = 16 := by decide
  exact h ▸ t.isLt
theorem b1_0 (c : Dev nD) (t : Fin cfg1.N) (r : Fin 512) (k : Fin 2048) : iblk1 V c 0 t (ix2 r k)
    = V c main_arg0 (ix2 (⟨512 * t.val + r.val, by have := lt1 t; omega⟩ : Fin 8192) k) := by
  blk_ext [iblk1, idx1 t]

/-- After the attention call its result array holds the attention block of every row. -/
theorem xa_final (c : Dev nD) : (dat1 V c).arrAt 6 cfg1.N
    = xaOut (V c main_arg0) (V c main_v3) (V c main_v2) (V c main_v4) (V c main_v5) (V c main_v6) := by
  refine (dat1 V c).arrAt_eq_of_covers 6 _ (by decide +kernel) fun t hf y => ?_
  blk_simp
  rw [after1_6]
  obtain ⟨r, j, rfl⟩ : ∃ r j, y = ix2 r j := ⟨y 0, y 1, eq_ix2 y⟩
  refine (outsAt_at V c t r j).trans ?_
  have e0 : (fun k => iblk1 V c 0 t (ix2 r k)) = fun k => V c main_arg0 (ix2 (⟨512 * t.val + r.val, by have := lt1 t; omega⟩ : Fin 8192) k) :=
    funext fun k => b1_0 V c t r k
  have he : (win1_6.blk t).view.emb (ix2 r j) = ix2 (⟨512 * t.val + r.val, by have := lt1 t; omega⟩ : Fin 8192) j := by
    blk_ext [idx1 t]
  rw [he, e0, b1_1, b1_2, b1_3, b1_4, b1_5]
  rfl

end Cert.XAttnIdeal.Hand
end
-- ==== Proof.XaRun.lean ====
module

public import proofs.«01_k».proof.Proof.XaBlocks
public import Idealize.ShloMosaic.Lib.Claim

/-!
  The run of the cross-attention program with its result: every final state has the result array at the attention block of every row, as a function
  of the arguments.
-/

@[expose] public section

set_option maxRecDepth 16384

noncomputable section

namespace Cert.XAttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.XAttnIdeal Cert.XAttnIdeal.Gen Cert.Rows

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with each array at the contents after the last region. -/
theorem run_arrays : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- A weight matrix in the kernel's matrix format. -/
def castB (w : Vec Ideal S2048x2048 .f32) : Vec Ideal S2048x2048 .bf16 :=
  (truncf .bf16 (w : FVec Ideal S2048x2048 .f32) bitsLt_bf16_f32 : FVec Ideal S2048x2048 .bf16)

/-- The joined key and value weights the projection reads. -/
def wkvOf (wk wv : Vec Ideal S2048x2048 .f32) : Vec Ideal S2048x4096 .bf16 :=
  (truncf .bf16 (concatenate S2048x4096 1 [⟨S2048x2048, wk⟩, ⟨S2048x2048, wv⟩] concatenates_S2048x2048_S2048x2048_S2048x4096_d1 : FVec Ideal S2048x4096 .f32)
    bitsLt_bf16_f32 : FVec Ideal S2048x4096 .bf16)

/-- The program's result as a function of its arguments. -/
def result (c : Dev nD) (m : (ℓ : Loc nD τ sig) → Buf (Elt Ideal) ℓ) : Vec Ideal S8192x2048 .f32 :=
  xaOut (m ((c : Thread nD τ).loc main_arg0)) (castB (m ((c : Thread nD τ).loc main_arg2)))
    (kvOut (m ((c : Thread nD τ).loc main_arg1)) (wkvOf (m ((c : Thread nD τ).loc main_arg3)) (m ((c : Thread nD τ).loc main_arg4))))
    (castB (m ((c : Thread nD τ).loc main_arg5)))
    (shapeCast S1x2048 (m ((c : Thread nD τ).loc main_arg6) : Vec Ideal S2048 .f32) shapeCasts_S2048_S1x2048)
    (shapeCast S1x2048 (m ((c : Thread nD τ).loc main_arg7) : Vec Ideal S2048 .f32) shapeCasts_S2048_S1x2048)

/-- The weights the projection reads are the two weight arguments joined. -/
theorem V1_w (c : Dev nD) : V1 m ρ c main_v1 = wkvOf (m ((c : Thread nD τ).loc main_arg3)) (m ((c : Thread nD τ).loc main_arg4)) := by
  unfold V1
  after_results_simp <;> rfl

theorem result_eq (c : Dev nD) (m : (ℓ : Loc nD τ sig) → Buf (Elt Ideal) ℓ) (ρ : Dev nD → PrngReg) : W4 m ρ c (Proc.devRef .tc main_v7) = result c m := by
  refine (W4_arr m ρ c 6).trans ((xa_final (V3 m ρ) c).trans ?_)
  have h0 : V3 m ρ c main_arg0 = m ((c : Thread nD τ).loc main_arg0) := W3_args m ρ c main_arg0 (by decide)
  have h2 : V3 m ρ c main_v2 = kvOut (m ((c : Thread nD τ).loc main_arg1)) (wkvOf (m ((c : Thread nD τ).loc main_arg3)) (m ((c : Thread nD τ).loc main_arg4))) := by
    refine (W3_of m ρ c main_v2 (by decide)).trans ((W2_arr m ρ c 2).trans ((kv_final (V1 m ρ) c).trans ?_))
    rw [V1_w, show V1 m ρ c main_arg1 = m ((c : Thread nD τ).loc main_arg1) from W1_args m ρ c main_arg1 (by decide)]
  have a (b : Ref sig .tc) (hb : b ∈ argRefs) : W2 m ρ c (Proc.devRef .tc b) = m ((c : Thread nD τ).loc b) := W2_args m ρ c b hb
  have h3 : V3 m ρ c main_v3 = castB (m ((c : Thread nD τ).loc main_arg2)) := by
    rw [← a main_arg2 (by decide)]; unfold V3; after_results_simp <;> rfl
  have h4 : V3 m ρ c main_v4 = castB (m ((c : Thread nD τ).loc main_arg5)) := by
    rw [← a main_arg5 (by decide)]; unfold V3; after_results_simp <;> rfl
  have h5 : V3 m ρ c main_v5 = shapeCast S1x2048 (m ((c : Thread nD τ).loc main_arg6) : Vec Ideal S2048 .f32) shapeCasts_S2048_S1x2048 := by
    rw [← a main_arg6 (by decide)]; unfold V3; after_results_simp <;> rfl
  have h6 : V3 m ρ c main_v6 = shapeCast S1x2048 (m ((c : Thread nD τ).loc main_arg7) : Vec Ideal S2048 .f32) shapeCasts_S2048_S1x2048 := by
    rw [← a main_arg7 (by decide)]; unfold V3; after_results_simp <;> rfl
  rw [h0, h2, h3, h4, h5, h6]
  rfl

/-- Every execution ends with the result array at `result` and the arguments unchanged. -/
theorem run_value : θ_run defs (onTc (τ := τ) (main (F := Ideal))) ⟨m, fun _ => 0, ρ⟩ (fun r => ∀ c : Dev nD,
      r.2.mem ((c.tc : Thread nD τ).loc main_v7) = result c m
      ∧ ∀ a ∈ argRefs, r.2.mem ((c.tc : Thread nD τ).loc a) = m ((c.tc : Thread nD τ).loc a)) :=
  (θ_run defs _ _).mono (fun _ h c => ⟨(h c _ (mem_uc main_v7 (by decide))).trans (result_eq c m ρ),
    fun a ha => (h c _ (mem_uc a ((by decide : ∀ a ∈ argRefs, ¬ (Proc.devRef .tc a : DevRef τ sig).isScoped) a ha))).trans (W4_args m ρ c a ha)⟩) (run_arrays m ρ)

end Cert.XAttnIdeal.Hand
end
-- ==== Proof.XaRef.lean ====
module

public import proofs.«01_k».proof.Proof.Gen.XAttnRefIdeal.Read
public import proofs.«01_k».proof.Proof.Rows
public import Idealize.ShloMosaic.Lib.Pointwise

/-! The reference of the cross-attention block, read at an entry of its result. -/

@[expose] public section

set_option maxRecDepth 16384

noncomputable section

namespace Cert.XAttnRefIdeal.Hand

open Idealize.ShloMosaic Idealize.ShloMosaic.TcCoe
open Cert.XAttnRefIdeal Cert.XAttnRefIdeal.Gen Cert.XAttnRefIdeal.Read Cert.Rows

variable (x : Vec Ideal S8192x2048 .f32) (mem : Vec Ideal S256x2048 .f32) (wq wk wv wo : Vec Ideal S2048x2048 .f32) (g b : Vec Ideal S2048 .f32)

/-- The query projection, split into heads. -/
theorem query_at (r : Fin 8192) (h : Fin 4) (d : Fin 512) : val_main_v1 (F := Ideal) x wq (ix3 r h d)
    = rowMul (fun k => x (ix2 r k)) (fun e k => wq (ix2 e k)) (headCol h d) := by
  rw [val_main_v1_apply, val_main_v0_apply]
  refine Finset.sum_congr rfl fun e _ => ?_
  have hl : lidx_main_v0 (idx_main_v1 (ix3 r h d)) e = ix2 r e := by
    funext a; fin_cases a <;> refine Fin.ext ?_ <;> simp [ix3, ix2] <;> omega
  have hr : ridx_main_v0 (idx_main_v1 (ix3 r h d)) e = ix2 e (headCol h d) := by
    funext a; fin_cases a <;> refine Fin.ext ?_ <;> simp [ix3, ix2, headCol] <;> omega
  rw [hl, hr]

/-- The key projection, split into heads. -/
theorem key_at (r : Fin 256) (h : Fin 4) (d : Fin 512) : val_main_v3 (F := Ideal) mem wk (ix3 r h d)
    = rowMul (fun k => mem (ix2 r k)) (fun e k => wk (ix2 e k)) (headCol h d) := by
  rw [val_main_v3_apply, val_main_v2_apply]
  refine Finset.sum_congr rfl fun e _ => ?_
  have hl : lidx_main_v2 (idx_main_v3 (ix3 r h d)) e = ix2 r e := by
    funext a; fin_cases a <;> refine Fin.ext ?_ <;> simp [ix3, ix2] <;> omega
  have hr : ridx_main_v2 (idx_main_v3 (ix3 r h d)) e = ix2 e (headCol h d) := by
    funext a; fin_cases a <;> refine Fin.ext ?_ <;> simp [ix3, ix2, headCol] <;> omega
  rw [hl, hr]

/-- The value projection, split into heads. -/
theorem value_at (r : Fin 256) (h : Fin 4) (d : Fin 512) : val_main_v5 (F := Ideal) mem wv (ix3 r h d)
    = rowMul (fun k => mem (ix2 r k)) (fun e k => wv (ix2 e k)) (headCol h d) := by
  rw [val_main_v5_apply, val_main_v4_apply]
  refine Finset.sum_congr rfl fun e _ => ?_
  have hl : lidx_main_v4 (idx_main_v5 (ix3 r h d)) e = ix2 r e := by
    funext a; fin_cases a <;> refine Fin.ext ?_ <;> simp [ix3, ix2] <;> omega
  have hr : ridx_main_v4 (idx_main_v5 (ix3 r h d)) e = ix2 e (headCol h d) := by
    funext a; fin_cases a <;> refine Fin.ext ?_ <;> simp [ix3, ix2, headCol] <;> omega
  rw [hl, hr]

/-- The scores of a token, as the reference's query and key rows give them. -/
def scores (h : Fin 4) (r : Fin 8192) : Fin 256 → EReal :=
  score (rowMul (fun k => x (ix2 r k)) (fun e k => wq (ix2 e k))) (fun n => rowMul (fun k => mem (ix2 n k)) (fun e k => wk (ix2 e k))) h

/-- The reference's scaled scores. -/
theorem score_at (h : Fin 4) (r : Fin 8192) (n : Fin 256) : val_main_v8 (F := Ideal) x mem wq wk (ix3 h r n) = scores x mem wq wk h r n := by
  rw [val_main_v8_apply, val_main_v6_apply, val_main_v7_apply, val_main_cst_apply]
  simp only [Ideal.mulf_def, scores, score]
  refine congrArg₂ _ (Finset.sum_congr rfl fun d _ => ?_) rfl
  have hl : lidx_main_v6 (ix3 h r n) d = ix3 r h d := by funext a; fin_cases a <;> rfl
  have hr : ridx_main_v6 (ix3 h r n) d = ix3 n h d := by funext a; fin_cases a <;> rfl
  rw [hl, hr, query_at, key_at]

/-- The reference's row maximum. -/
theorem max_at (h : Fin 4) (r : Fin 8192) : val_main_v11 (F := Ideal) x mem wq wk (ix2 h r)
    = Finset.fold max (Ideal.ofBits FTy.f32 4286578688#32) (scores x mem wq wk h r) Finset.univ := by
  have h9 : val_main_v9 (F := Ideal) x mem wq wk (ix2 h r) = Finset.fold max (Ideal.ofBits FTy.f32 4286578688#32) (scores x mem wq wk h r) Finset.univ := by
    have hR : S4x8192x256.Reduces [2] S4x8192 := by decide
    unfold val_main_v9
    refine (Host.reduce_eq_fold_single (max : EReal → EReal → EReal) _ _ reducesTo_S4x8192x256_S4x8192_d2 hR h_S_ (ix2 h r)).trans ?_
    refine congrArg (fun f => Finset.fold max (Ideal.ofBits FTy.f32 4286578688#32) f Finset.univ) (funext fun n => ?_)
    refine (congrArg (val_main_v8 (F := Ideal) x mem wq wk) ?_).trans (score_at x mem wq wk h r n)
    funext a; fin_cases a <;> rfl
  rw [val_main_v11_apply, val_main_v10_apply, val_main_cst_1_apply, h9]
  exact max_eq_right ((Finset.le_fold_max _).2 (Or.inl le_rfl))

/-- The reference's exponentials. -/
theorem exp_at (h : Fin 4) (r : Fin 8192) (n : Fin 256) : val_main_v15 (F := Ideal) x mem wq wk (ix3 h r n)
    = Ideal.exp (scores x mem wq wk h r n - Finset.fold max (Ideal.ofBits FTy.f32 4286578688#32) (scores x mem wq wk h r) Finset.univ) := by
  have hi : idx_main_v12 (idx_main_v13 (ix3 h r n)) = ix2 h r := by funext a; fin_cases a <;> rfl
  rw [val_main_v15_apply, val_main_v14_apply, val_main_v13_apply, val_main_v12_apply, hi, score_at, max_at]
  rfl

/-- The reference's softmax weights. -/
theorem softmax_at (h : Fin 4) (r : Fin 8192) (n : Fin 256) : val_main_v19 (F := Ideal) x mem wq wk (ix3 h r n)
    = softmax (scores x mem wq wk h r) n := by
  have hi : idx_main_v17 (idx_main_v18 (ix3 h r n)) = ix2 h r := by funext a; fin_cases a <;> rfl
  rw [val_main_v19_apply, val_main_v18_apply, val_main_v17_apply, hi, val_main_v16_apply, val_main_cst_2_apply, exp_at]
  simp only [Ideal.hostDivf_def, Ideal.ofBits_def, Ideal.ofBits_zero_f32, zero_add, softmax]
  refine congrArg _ (Finset.sum_congr rfl fun n' _ => ?_)
  have hk : idx_main_v16 (ix2 h r) n' = ix3 h r n' := by funext a; fin_cases a <;> rfl
  rw [hk, exp_at]

/-- The reference's attention rows. -/
theorem attend_at (r : Fin 8192) (j : Fin 2048) : val_main_v22 (F := Ideal) x mem wq wk wv (ix2 r j)
    = attend (rowMul (fun k => x (ix2 r k)) (fun e k => wq (ix2 e k))) (fun n => rowMul (fun k => mem (ix2 n k)) (fun e k => wk (ix2 e k)))
        (fun n => rowMul (fun k => mem (ix2 n k)) (fun e k => wv (ix2 e k))) j := by
  rw [val_main_v22_apply, val_main_v21_apply, val_main_v20_apply]
  refine Finset.sum_congr rfl fun n _ => ?_
  have hl : lidx_main_v20 (idx_main_v21 (idx_main_v22 (ix2 r j))) n = ix3 n (headOf j) (⟨j.val % 512, by omega⟩ : Fin 512) := by
    funext a; fin_cases a <;> refine Fin.ext ?_ <;> simp [ix3, ix2, headOf] <;> omega
  have hr : ridx_main_v20 (idx_main_v21 (idx_main_v22 (ix2 r j))) n = ix3 (headOf j) r n := by
    funext a; fin_cases a <;> refine Fin.ext ?_ <;> simp [ix3, ix2, headOf] <;> omega
  have hj : headCol (headOf j) (⟨j.val % 512, by omega⟩ : Fin 512) = j := Fin.ext (by simp only [headCol, headOf]; omega)
  rw [hl, hr, value_at, softmax_at, hj, mul_comm]
  rfl

/-- A token's row before the normalization. -/
def pre (r : Fin 8192) : Fin 2048 → EReal :=
  skipAdd (fun k => x (ix2 r k)) (rowMul (attend (rowMul (fun k => x (ix2 r k)) (fun e k => wq (ix2 e k)))
    (fun n => rowMul (fun k => mem (ix2 n k)) (fun e k => wk (ix2 e k))) (fun n => rowMul (fun k => mem (ix2 n k)) (fun e k => wv (ix2 e k))))
    (fun e k => wo (ix2 e k)))

/-- The reference's residual rows. -/
theorem pre_at (r : Fin 8192) (k : Fin 2048) : val_main_v26 (F := Ideal) x mem wq wk wv wo (ix2 r k) = pre x mem wq wk wv wo r k := by
  rw [val_main_v26_apply, val_main_v24_apply, val_main_v23_apply, val_main_cst_3_apply, val_main_v25_apply]
  refine congrArg (_ + ·) (Finset.sum_congr rfl fun e _ => ?_)
  have hl : lidx_main_v25 (ix2 r k) e = ix2 r e := by funext a; fin_cases a <;> rfl
  have hr : ridx_main_v25 (ix2 r k) e = ix2 e k := by funext a; fin_cases a <;> rfl
  rw [hl, hr, attend_at]

/-- The reference's row means. -/
theorem mean_at (r : Fin 8192) (z : Fin 1) : val_main_v30 (F := Ideal) x mem wq wk wv wo (ix2 r z) = mean (pre x mem wq wk wv wo r) := by
  rw [val_main_v30_apply, val_main_v29_apply, val_main_cst_5_apply, val_main_v28_apply, val_main_v27_apply, val_main_cst_4_apply]
  simp only [Ideal.hostDivf_def, Ideal.ofBits_def, Ideal.ofBits_zero_f32, zero_add, mean]
  refine congrArg₂ _ (Finset.sum_congr rfl fun k _ => ?_) rfl
  have hi : idx_main_v27 (idx_main_v28 (ix2 r z)) k = ix2 r k := by funext a; fin_cases a <;> rfl
  rw [hi, pre_at]

/-- The reference's row variances. -/
theorem var_at (r : Fin 8192) (z : Fin 1) : val_main_v37 (F := Ideal) x mem wq wk wv wo (ix2 r z)
    = mean (fun k => (pre x mem wq wk wv wo r k - mean (pre x mem wq wk wv wo r)) * (pre x mem wq wk wv wo r k - mean (pre x mem wq wk wv wo r))) := by
  rw [val_main_v37_apply, val_main_v36_apply, val_main_cst_7_apply, val_main_v35_apply, val_main_v34_apply, val_main_cst_6_apply]
  simp only [Ideal.hostDivf_def, Ideal.ofBits_def, Ideal.ofBits_zero_f32, zero_add]
  refine congrArg₂ _ (Finset.sum_congr rfl fun k _ => ?_) rfl
  have hi : idx_main_v34 (idx_main_v35 (ix2 r z)) k = ix2 r k := by funext a; fin_cases a <;> rfl
  have hm : idx_main_v31 (ix2 r k) = ix2 r (0 : Fin 1) := by funext a; fin_cases a <;> rfl
  rw [hi, val_main_v33_apply, val_main_v32_apply, val_main_v31_apply, hm, mean_at, pre_at]
  rfl

/-- The reference's result, at a token and a feature. -/
theorem result_at (r : Fin 8192) (j : Fin 2048) : val_main_v50 (F := Ideal) x mem wq wk wv wo g b (ix2 r j)
    = layerNorm (pre x mem wq wk wv wo r) (fun k => g (ix1 k)) (fun k => b (ix1 k)) j := by
  have hm : idx_main_v38 (ix2 r j) = ix2 r (0 : Fin 1) := by funext a; fin_cases a <;> rfl
  have hv : idx_main_v43 (ix2 r j) = ix2 r (0 : Fin 1) := by funext a; fin_cases a <;> rfl
  have hg : idx_main_v45 (idx_main_v46 (ix2 r j)) = ix1 j := by funext a; fin_cases a; rfl
  have hb : idx_main_v48 (idx_main_v49 (ix2 r j)) = ix1 j := by funext a; fin_cases a; rfl
  rw [val_main_v50_apply, val_main_v49_apply, val_main_v48_apply, hb, val_main_v47_apply, val_main_v46_apply, val_main_v45_apply, hg, val_main_v44_apply,
    val_main_v43_apply, hv, val_main_v42_apply, val_main_v41_apply, var_at, val_main_v40_apply, val_main_cst_8_apply, val_main_v39_apply,
    val_main_v38_apply, hm, mean_at, pre_at]
  rfl

end Cert.XAttnRefIdeal.Hand
end
-- ==== Proof.XaEq.lean ====
module

public import proofs.«01_k».proof.Proof.XaRun
public import proofs.«01_k».proof.Proof.XaRef

/-! The cross-attention block: the kernel's result is the reference's. -/

@[expose] public section

set_option maxRecDepth 16384

noncomputable section

namespace Cert.XAttnEq

open Idealize.ShloMosaic Idealize.ShloMosaic.TcCoe Idealize.SL.Sem
open Cert.XAttnIdeal Cert.XAttnIdeal.Gen Cert.XAttnIdeal.Hand Cert.Rows

variable (x : Vec Ideal S8192x2048 .f32) (mem : Vec Ideal S256x2048 .f32) (wq wk wv wo : Vec Ideal S2048x2048 .f32) (g b : Vec Ideal S2048 .f32)

/-- The first half of the joined weights is the key weights. -/
theorem wkv_key (e j : Fin 2048) : wkvOf wk wv (ix2 e (⟨j.val, by omega⟩ : Fin 4096)) = wk (ix2 e j) := by
  pointwise [wkvOf]

/-- The second half of the joined weights is the value weights. -/
theorem wkv_value (e j : Fin 2048) : wkvOf wk wv (ix2 e (⟨2048 + j.val, by omega⟩ : Fin 4096)) = wv (ix2 e j) := by
  pointwise [wkvOf]

theorem row_at (v : Vec Ideal S2048 .f32) (k : Fin 2048) : (shapeCast S1x2048 v shapeCasts_S2048_S1x2048 : Vec Ideal S1x2048 .f32) (ix2 0 k) = v (ix1 k) := by
  pointwise []

/-- The kernel's result array is the reference's. -/
theorem value_eq (mem₀ : (ℓ : Loc nD τ sig) → Buf (Elt Ideal) ℓ) (c : Dev nD) : result c mem₀ = Cert.XAttnRefIdeal.Read.val_main_v50 (F := Ideal)
    (mem₀ ((c : Thread nD τ).loc main_arg0)) (mem₀ ((c : Thread nD τ).loc main_arg1)) (mem₀ ((c : Thread nD τ).loc main_arg2))
    (mem₀ ((c : Thread nD τ).loc main_arg3)) (mem₀ ((c : Thread nD τ).loc main_arg4)) (mem₀ ((c : Thread nD τ).loc main_arg5))
    (mem₀ ((c : Thread nD τ).loc main_arg6)) (mem₀ ((c : Thread nD τ).loc main_arg7)) := by
  funext y
  obtain ⟨r, j, rfl⟩ : ∃ (r : Fin 8192) (j : Fin 2048), y = ix2 r j := ⟨y 0, y 1, eq_ix2 y⟩
  refine Eq.trans ?_ (Cert.XAttnRefIdeal.Hand.result_at _ _ _ _ _ _ _ _ r j).symm
  unfold result xaOut
  have hk : ∀ wk wv mem, keyOf (kvOut mem (wkvOf wk wv)) = fun n => rowMul (fun k => mem (ix2 n k)) (fun e k => wk (ix2 e k)) := by
    intro wk wv mem
    funext n d
    change (∑ e, mem (ix2 n e) * wkvOf wk wv (ix2 e _) : EReal) = ∑ e, mem (ix2 n e) * wk (ix2 e d)
    exact Finset.sum_congr rfl fun e _ => congrArg (mem (ix2 n e) * ·) (wkv_key wk wv e d)
  have hv : ∀ wk wv mem, valOf (kvOut mem (wkvOf wk wv)) = fun n => rowMul (fun k => mem (ix2 n k)) (fun e k => wv (ix2 e k)) := by
    intro wk wv mem
    funext n d
    change (∑ e, mem (ix2 n e) * wkvOf wk wv (ix2 e _) : EReal) = ∑ e, mem (ix2 n e) * wv (ix2 e d)
    exact Finset.sum_congr rfl fun e _ => congrArg (mem (ix2 n e) * ·) (wkv_value wk wv e d)
  rw [hk, hv]
  have hg (v : Vec Ideal S2048 .f32) : (fun k : Fin 2048 => (shapeCast S1x2048 v shapeCasts_S2048_S1x2048 : Vec Ideal S1x2048 .f32) (ix2 0 k))
    = fun k => v (ix1 k) := funext fun k => row_at v k
  rw [hg, hg]
  rfl

end Cert.XAttnEq
end
-- ==== Proof.XaClaims.lean ====
module

public import proofs.«01_k».proof.Defs
public import proofs.«01_k».proof.Proof.Gen.XAttn.Frame
public import proofs.«01_k».proof.Proof.XaEq

/-! The claims about the cross-attention program. -/

@[expose] public section

noncomputable section

namespace Cert.XAttnEq

open Idealize.ShloMosaic Idealize.SL.Sem

/-- The kernel as written terminates and leaves its arguments and the counters as they were. -/
theorem frame_kernel : Cert.quiescent_XAttn := fun m ρ _ => Cert.XAttn.Gen.frame m ρ

/-- So does the kernel over the extended reals. -/
theorem frame_ideal : Cert.quiescent_XAttnIdeal := fun m ρ _ => Cert.XAttnIdeal.Gen.frame m ρ

/-- So does the reference. -/
theorem frame_reference : Cert.quiescent_XAttnRefIdeal := fun m ρ _ =>
  (θ_run _ _ _).mono (fun r h => ⟨fun c => (h c).2, sem_eq_zero_of_no_sems (by decide) r.2⟩) (Cert.XAttnRefIdeal.Value.run m ρ)

/-- Over the extended reals the kernel and the reference end with the same result. -/
theorem algebraic : Cert.algebraic_XAttnIdeal_XAttnRefIdeal := by
  intro m g m' g' _ hagree
  refine ⟨fun c => Cert.XAttnIdeal.Hand.result c m, (θ_run _ _ _).mono (fun _ h c => ?_) (Cert.XAttnIdeal.Hand.run_value m g),
    (θ_run _ _ _).mono (fun _ h c => ⟨(h c).1.trans ?_, (h c).2⟩) (Cert.XAttnRefIdeal.Value.run m' g')⟩
  · obtain ⟨h0, ha⟩ := h c
    exact ⟨h0, ha _ (by decide), ha _ (by decide), ha _ (by decide), ha _ (by decide), ha _ (by decide), ha _ (by decide), ha _ (by decide), ha _ (by decide)⟩
  · rw [Cert.XAttnRefIdeal.Read.val_main_v50_eq]
    obtain ⟨e0, e1, e2, e3, e4, e5, e6, e7⟩ := hagree c
    rw [e0, e1, e2, e3, e4, e5, e6, e7]
    exact (value_eq m c).symm

end Cert.XAttnEq
end
-- ==== Proof.FfRun.lean ====
module

public import proofs.«01_k».proof.Proof.Gen.FfnIdeal.Frame
public import proofs.«01_k».proof.Proof.Gen.FfnIdeal.Skeleton
public import Idealize.ShloMosaic.Lib.Pipeline.ValueKit.Acc

@[expose] public section

set_option maxRecDepth 16384

noncomputable section

namespace Cert.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-- The body's first condition: the point is the first of its block row. -/
def isFirst (i : grid0.Coords) : Prop :=
  Scalar.cmpi .ne (Scalar.extui (Scalar.cmpi .eq (BitVec.ofNat 32 (i 1).val) 0#32)) 0#32 = 1#1
/-- Its second: the block row is the first of the array. -/
def isTop (i : grid0.Coords) : Prop := k0_cond2 i = 1#1
/-- Its third: the point is the last of its block row. -/
def isLast (i : grid0.Coords) : Prop := k0_cond3 i = 1#1

instance (i : grid0.Coords) : Decidable (isFirst i) := by unfold isFirst; infer_instance
instance (i : grid0.Coords) : Decidable (isTop i) := by unfold isTop; infer_instance
instance (i : grid0.Coords) : Decidable (isLast i) := by unfold isLast; infer_instance

/-- The slot of the carried scratch that the point's column tile owns. -/
abbrev slot (i : grid0.Coords) : Rect S11x8x512 := Rect.unit (k0_off2 i) S1x8x512.size (k0_off2_inb i)

/-- The gate tile with the eight rows before it on top. -/
def ext (prev : Vec F S1x8x512 .f32) (xb : Vec F S512x2048 .bf16) (wg : Vec F S2048x512 .bf16) : Vec F S520x512 .f32 :=
  View.canon [⟨Rect.unit ![8, 0] S512x512.size inb_S520x512_S512x512_8_0, k0_pay9 xb wg⟩,
    ⟨Rect.unit ![0, 0] S8x512.size inb_S520x512_S8x512_0_0, k0_pay8 prev⟩]

/-- The accumulator after a point, from what it held and what the point reads. -/
def accum (prev : Vec F S1x8x512 .f32) (xb : Vec F S512x2048 .bf16) (wg wv : Vec F S2048x512 .bf16) (wd : Vec F S512x2048 .bf16)
    (cw : Vec F S3x512 .f32) (cb : Vec F S1x512 .f32) (acc : Vec F S512x2048 .f32) : Vec F S512x2048 .f32 :=
  k0_pay1 (k0_pay6 xb wg) (k0_pay7 xb wv) (k0_pay11 cb)
    (View.ld cw (Rect.unit ![2, 0] S1x512.size inb_S3x512_S1x512_2_0)) (View.ld cw (Rect.unit ![0, 0] S1x512.size inb_S3x512_S1x512_0_0))
    (View.ld (ext prev xb wg) (Rect.unit ![6, 0] S512x512.size inb_S520x512_S512x512_6_0))
    (View.ld cw (Rect.unit ![1, 0] S1x512.size inb_S3x512_S1x512_1_0))
    (View.ld (ext prev xb wg) (Rect.unit ![7, 0] S512x512.size inb_S520x512_S512x512_7_0)) acc wd

/-- The cast rows the point works on. -/
def rowsAt (i : grid0.Coords) (x0 : Vec F S512x2048 .f32) (xb : Vec F S512x2048 .bf16) : Vec F S512x2048 .bf16 :=
  if isFirst i then k0_pay3 x0 else xb
/-- What the accumulator holds when the point adds to it. -/
def startAt (i : grid0.Coords) (acc : Vec F S512x2048 .f32) : Vec F S512x2048 .f32 := if isFirst i then k0_pay4 else acc
/-- The gate's eight rows before the block row. -/
def prevAt (i : grid0.Coords) (carry : Vec F S11x8x512 .f32) : Vec F S1x8x512 .f32 :=
  if isTop i then k0_pay5 else View.ld carry (slot i)
/-- What the point leaves in the output's buffer. -/
def outAt (i : grid0.Coords) (x0 acc : Vec F S512x2048 .f32) (g b : Vec F S1x2048 .f32) (xi : Vec F S512x2048 .f32) : Vec F S512x2048 .f32 :=
  if isLast i then k0_pay2 x0 acc g b else xi

/-- A load through a slot just written reads what was written. -/
theorem ld_writes_same {sig' : RefSig} {κ : Kind} {sp : Space} {S : Shape} {e : EltTy} {Val : EltTy → Type} (v : View sig' κ sp S e) (f : v.ty.Contents Val) (r : Rect S)
    (w : r.shape.Idx → Val e) (L : List (View.Piece Val S e)) : View.ld (v.read Val (v.writes Val f (⟨r, w⟩ :: L))) r = w :=
  funext fun x => v.read_writes_cons_emb f r w L x

/-- One write through a rectangle, read back whole. -/
theorem read_write_one {sig' : RefSig} {κ : Kind} {sp : Space} {S : Shape} {e : EltTy} {Val : EltTy → Type} (v : View sig' κ sp S e) (f : v.ty.Contents Val) (r : Rect S)
    (w : r.shape.Idx → Val e) : v.read Val (v.writes Val f [⟨r, w⟩]) = r.overlay (v.read Val f) w := by
  funext y
  by_cases hy : y ∈ r.set
  · obtain ⟨x, rfl⟩ : ∃ x, r.emb x = y := r.exists_idx_of_mem hy
    rw [v.read_writes_cons_emb, r.overlay_emb]
  · rw [v.read_writes_cons_miss f _ _ y hy, r.overlay_of_not_mem _ _ hy]; rfl

/-- A second write through the same rectangle is the one that stays. -/
theorem read_write_two {sig' : RefSig} {κ : Kind} {sp : Space} {S : Shape} {e : EltTy} {Val : EltTy → Type} (v : View sig' κ sp S e) (f : v.ty.Contents Val) (r : Rect S)
    (w z : r.shape.Idx → Val e) : v.read Val (v.writes Val f [⟨r, w⟩, ⟨r, z⟩]) = r.overlay (v.read Val f) w := by
  funext y
  by_cases hy : y ∈ r.set
  · obtain ⟨x, rfl⟩ : ∃ x, r.emb x = y := r.exists_idx_of_mem hy
    rw [v.read_writes_cons_emb, r.overlay_emb]
  · rw [v.read_writes_cons_miss f _ _ y hy, v.read_writes_cons_miss f _ _ y hy, r.overlay_of_not_mem _ _ hy]; rfl

/-- A last write through the whole rectangle is what the buffer reads. -/
theorem read_write_whole {sig' : RefSig} {κ : Kind} {sp : Space} {S : Shape} {e : EltTy} {Val : EltTy → Type} (v : View sig' κ sp S e) (f : v.ty.Contents Val)
    {off : Fin S.rank → ℕ} (inb : ∀ a, off a + S.size a ≤ S.size a) (w : S.Idx → Val e) (L : List (View.Piece Val S e)) (h : ∀ a, off a = 0) :
    v.read Val (v.writes Val f (⟨Rect.unit off (no_index S.size) inb, w⟩ :: L)) = w := by
  have e := ld_writes_same v f (Rect.unit off S.size inb) w L
  rwa [View.ld_unit_lit inb _ h] at e

set_option maxHeartbeats 4000000 in
/-- One run of the body: from the windows' blocks and the scratch contents it leaves the inputs as they were, the output's
    buffer at `outAt`, the cast rows at `rowsAt`, the accumulator at `accum` and the point's own slot of the carried scratch at
    the gate tile's last eight rows. -/
theorem body_run (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x2048 .f32) (harg12 : arg12.IsWhole) (arg13 : Memref sig .tc .vmem S11x8x512 .f32) (harg13 : arg13.IsWhole) (arg14 : Memref sig .tc .vmem S520x512 .f32) (harg14 : arg14.IsWhole)
    (hx : isFirst i → ¬ isLast i)
    (x0 : Vec F S512x2048 .f32) (x1 : Vec F S2048x512 .bf16) (x2 : Vec F S2048x512 .bf16) (x3 : Vec F S512x2048 .bf16) (x4 : Vec F S3x512 .f32) (x5 : Vec F S1x512 .f32) (x6 : Vec F S1x2048 .f32) (x7 : Vec F S1x2048 .f32)
    (xi : Vec F S512x2048 .f32) (xb : Vec F S512x2048 .bf16) (acc : Vec F S512x2048 .f32) (carry : Vec F S11x8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi
      ∗ owns (c : Thread nD τ) arg11 fullShare xb ∗ owns (c : Thread nD τ) arg12 fullShare acc ∗ owns (c : Thread nD τ) arg13 fullShare carry ∗ (∃ d, owns (c : Thread nD τ) arg14 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg10 fullShare (outAt i x0 (accum (prevAt i carry) (rowsAt i x0 xb) x1 x2 x3 x4 x5 (startAt i acc)) x6 x7 xi)
        ∗ owns (c : Thread nD τ) arg11 fullShare (rowsAt i x0 xb)
        ∗ owns (c : Thread nD τ) arg12 fullShare (accum (prevAt i carry) (rowsAt i x0 xb) x1 x2 x3 x4 x5 (startAt i acc))
        ∗ owns (c : Thread nD τ) arg13 fullShare ((slot i).overlay carry (k0_pay10 (rowsAt i x0 xb) x1)) ∗ (∃ d, owns (c : Thread nD τ) arg14 fullShare d)) -∗ K ⟨⟩))
    ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K := by
  unfold rowsAt startAt prevAt outAt
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1; obtain rfl := harg13.eq_unread hfs2
  by_cases hc0 : isFirst i <;> by_cases hc1 : isTop i <;> by_cases hc2 : isLast i
  all_goals try exact absurd hc2 (hx hc0)
  all_goals
    simp only [hc0, hc1, hc2, if_true, if_false]
    unfold isFirst at hc0; unfold isTop at hc1; unfold isLast at hc2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr [H8]; rotate_left; · iexact H8
      ipureintro
      sl_unfold_words
      try simp (disch := decide) only [View.readCov_cons_unit_lit', View.readCov_cons_toLoadRect]
      try simp (disch := decide) only [View.readCov_eq_canon', View.readAt_eq_ld, View.ld_unit_lit', Memref.IsWhole.read_unread, read_write_whole, ld_writes_same]
      try rfl
    isplitl [HS0]
    · iexists _; isplitr [HS0]; rotate_left; · iexact HS0
      ipureintro
      sl_unfold_words
      try simp (disch := decide) only [View.readCov_cons_unit_lit', View.readCov_cons_toLoadRect]
      try simp (disch := decide) only [View.readCov_eq_canon', View.readAt_eq_ld, View.ld_unit_lit', Memref.IsWhole.read_unread, read_write_whole, ld_writes_same]
      try rfl
    isplitl [HS1]
    · iexists _; isplitr [HS1]; rotate_left; · iexact HS1
      ipureintro
      sl_unfold_words
      try simp (disch := decide) only [View.readCov_cons_unit_lit', View.readCov_cons_toLoadRect]
      try simp (disch := decide) only [View.readCov_eq_canon', View.readAt_eq_ld, View.ld_unit_lit', Memref.IsWhole.read_unread, read_write_whole, ld_writes_same]
      try rfl
    isplitl [HS2]
    · iexists _; isplitr [HS2]; rotate_left; · iexact HS2
      ipureintro
      sl_unfold_words
      try simp (disch := decide) only [View.readCov_cons_unit_lit', View.readCov_cons_toLoadRect]
      try simp (disch := decide) only [View.readCov_eq_canon', View.readAt_eq_ld, View.ld_unit_lit', Memref.IsWhole.read_unread, read_write_whole, ld_writes_same, read_write_one, read_write_two]
      try rfl
    iexists _; iexists _; isplitr [HS3]; swap; · iexact HS3
    ipureintro; rfl

end Cert.FfnRun

end

end
-- ==== Proof.FfPoint.lean ====
module

public import proofs.«01_k».proof.Proof.FfRun

@[expose] public section

set_option maxRecDepth 16384

noncomputable section

namespace Cert.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ)

/-! ## Where the points lie -/

/-- The conditions in closed form: point `t` is the first of its block row when `t % 11 = 0`; -/
theorem isFirst_iff : ∀ t : Fin cfg0.N, isFirst (grid0.coords t) ↔ t.val % 11 = 0 :=
  (by decide +kernel : ∀ t : Fin grid0.N, _)
/-- its block row is the array's first when `t < 11`; -/
theorem isTop_iff : ∀ t : Fin cfg0.N, isTop (grid0.coords t) ↔ t.val < 11 :=
  (by decide +kernel : ∀ t : Fin grid0.N, _)
/-- it is the last of its block row when `t % 11 = 10`. -/
theorem isLast_iff : ∀ t : Fin cfg0.N, isLast (grid0.coords t) ↔ t.val % 11 = 10 :=
  (by decide +kernel : ∀ t : Fin grid0.N, _)
/-- Point `t`'s slot is number `t % 11`. -/
theorem slot_off : ∀ t : Fin cfg0.N, k0_off2 (grid0.coords t) = ![t.val % 11, 0, 0] :=
  (by decide +kernel : ∀ t : Fin grid0.N, _)

theorem lt_of_point (t : Fin cfg0.N) : t.val < 176 := lt_of_lt_of_eq t.isLt N_0

/-- Two points' slots: the same elements when the points differ by a multiple of eleven, -/
theorem slot_ld (t u : Fin cfg0.N) (h : t.val % 11 = u.val % 11) (C : Vec F S11x8x512 .f32) :
    (View.ld C (slot (grid0.coords t)) : Vec F S1x8x512 .f32) = View.ld C (slot (grid0.coords u)) := by
  funext x
  refine congrArg C (funext fun a => Fin.ext ?_)
  show k0_off2 (grid0.coords t) a + 1 * (x a).val = k0_off2 (grid0.coords u) a + 1 * (x a).val
  rw [slot_off, slot_off, h]

/-- with no common element otherwise. -/
theorem slot_ne (t u : Fin cfg0.N) (h : t.val % 11 ≠ u.val % 11) (x : (slot (grid0.coords u)).shape.Idx) :
    (slot (grid0.coords u)).idx x ∉ (slot (grid0.coords t)).set := by
  intro hm
  have a := (Rect.mem_set_unit.mp hm) (0 : Fin 3)
  have e : (((slot (grid0.coords u)).idx x (0 : Fin 3)) : ℕ) = k0_off2 (grid0.coords u) (0 : Fin 3) + 1 * (x (0 : Fin 3)).val := rfl
  have hx : (x (0 : Fin 3)).val < 1 := (x (0 : Fin 3)).isLt
  rw [e, slot_off, slot_off] at a
  simp only [Matrix.cons_val_zero] at a
  omega

/-! ## What each point computes -/

/-- The first point of point `t`'s block row. -/
def rowStart (t : Fin cfg0.N) : Fin cfg0.N := ⟨t.val - t.val % 11, lt_of_le_of_lt (Nat.sub_le _ _) t.isLt⟩

/-- The cast rows of point `t`'s block row. -/
def xbAt (c : Dev nD) (t : Fin cfg0.N) : Vec F S512x2048 .bf16 := k0_pay3 (iblk m c 0 (rowStart t))

/-- The last eight rows of point `t`'s gate tile, which the point leaves in its slot. -/
def tailAt (c : Dev nD) (t : Fin cfg0.N) : Vec F S1x8x512 .f32 := k0_pay10 (xbAt m c t) (iblk m c 1 t)

/-- The eight gate rows before point `t`'s block row: zero above the array, else what the point eleven before left. -/
def prevOf (c : Dev nD) (t : Fin cfg0.N) : Vec F S1x8x512 .f32 :=
  if t.val < 11 then k0_pay5 else tailAt m c ⟨t.val - 11, lt_of_le_of_lt (Nat.sub_le _ _) t.isLt⟩

/-- Point `t`'s addition to an accumulator. -/
def stepAt (c : Dev nD) (t : Fin cfg0.N) (acc : Vec F S512x2048 .f32) : Vec F S512x2048 .f32 :=
  accum (prevOf m c t) (xbAt m c t) (iblk m c 1 t) (iblk m c 2 t) (iblk m c 3 t) (iblk m c 4 t) (iblk m c 5 t) acc

/-- The accumulator after point `n`. -/
def accAt (c : Dev nD) : (n : ℕ) → n < cfg0.N → Vec F S512x2048 .f32
  | 0, h => stepAt m c ⟨0, h⟩ k0_pay4
  | n + 1, h => stepAt m c ⟨n + 1, h⟩ (if (n + 1) % 11 = 0 then k0_pay4 else accAt c n (Nat.lt_of_succ_lt h))

/-- The scratch before position `n`: inside a block row the cast rows and the accumulator are the last point's, and each slot
    written in the last eleven points holds what that point left. -/
def Inv (c : Dev nD) (n : ℕ) (Xb : Vec F S512x2048 .bf16) (Acc : Vec F S512x2048 .f32) (C : Vec F S11x8x512 .f32) : Prop :=
  (∀ (k : ℕ) (hk : k < cfg0.N), n = k + 1 → n % 11 ≠ 0 → Xb = xbAt m c ⟨k, hk⟩ ∧ Acc = accAt m c k hk)
  ∧ ∀ (k : ℕ) (hk : k < cfg0.N), k < n → n ≤ k + 11 → View.ld C (slot (grid0.coords ⟨k, hk⟩)) = tailAt m c ⟨k, hk⟩

/-- Before the first point nothing is asked of the scratch. -/
theorem inv_zero (c : Dev nD) (Xb : Vec F S512x2048 .bf16) (Acc : Vec F S512x2048 .f32) (C : Vec F S11x8x512 .f32) : Inv m c 0 Xb Acc C :=
  ⟨fun k _ h => absurd h (by omega), fun k _ h => absurd h (by omega)⟩

/-- Two points of one block row work on the same cast rows. -/
theorem xbAt_succ (c : Dev nD) (k : ℕ) (hk : k < cfg0.N) (hk' : k + 1 < cfg0.N) (h : (k + 1) % 11 ≠ 0) :
    xbAt m c ⟨k + 1, hk'⟩ = xbAt m c ⟨k, hk⟩ := by
  have e : rowStart ⟨k + 1, hk'⟩ = rowStart ⟨k, hk⟩ := Fin.ext (by show k + 1 - (k + 1) % 11 = k - k % 11; omega)
  unfold xbAt
  rw [e]

variable {m}

/-- The rows point `t` works on are its block row's, -/
theorem rowsAt_eq {c : Dev nD} {t : Fin cfg0.N} {Xb : Vec F S512x2048 .bf16} {Acc : Vec F S512x2048 .f32} {C : Vec F S11x8x512 .f32}
    (h : Inv m c t.val Xb Acc C) : rowsAt (grid0.coords t) (iblk m c 0 t) Xb = xbAt m c t := by
  unfold rowsAt
  split
  · next h0 =>
    have e : rowStart t = t := Fin.ext (by have := (isFirst_iff t).mp h0; show t.val - t.val % 11 = t.val; omega)
    unfold xbAt
    rw [e]
  · next h0 =>
    have h0 : ¬ t.val % 11 = 0 := fun e => h0 ((isFirst_iff t).mpr e)
    obtain ⟨n, hn⟩ := t
    cases n with
    | zero => exact absurd (Nat.zero_mod 11) h0
    | succ k => rw [((h.1 k (Nat.lt_of_succ_lt hn) rfl h0).1), xbAt_succ m c k _ hn h0]

/-- the eight rows before it are as `prevOf` says, -/
theorem prevAt_eq {c : Dev nD} {t : Fin cfg0.N} {Xb : Vec F S512x2048 .bf16} {Acc : Vec F S512x2048 .f32} {C : Vec F S11x8x512 .f32}
    (h : Inv m c t.val Xb Acc C) : prevAt (grid0.coords t) C = prevOf m c t := by
  unfold prevAt prevOf
  by_cases h1 : t.val < 11
  · rw [if_pos ((isTop_iff t).mpr h1), if_pos h1]
  · rw [if_neg fun e => h1 ((isTop_iff t).mp e), if_neg h1,
      ← h.2 (t.val - 11) (lt_of_le_of_lt (Nat.sub_le _ _) t.isLt) (by omega) (by omega)]
    exact slot_ld t ⟨t.val - 11, lt_of_le_of_lt (Nat.sub_le _ _) t.isLt⟩ (by dsimp only; omega) C

/-- and its accumulator ends at `accAt`. -/
theorem accum_eq {c : Dev nD} {t : Fin cfg0.N} {Xb : Vec F S512x2048 .bf16} {Acc : Vec F S512x2048 .f32} {C : Vec F S11x8x512 .f32}
    (h : Inv m c t.val Xb Acc C) : stepAt m c t (startAt (grid0.coords t) Acc) = accAt m c t.val t.isLt := by
  obtain ⟨n, hn⟩ := t
  unfold startAt
  cases n with
  | zero => rw [if_pos ((isFirst_iff _).mpr (Nat.zero_mod 11))]; rfl
  | succ k =>
    rw [accAt]
    by_cases h0 : (k + 1) % 11 = 0
    · rw [if_pos ((isFirst_iff _).mpr h0), if_pos h0]
    · rw [if_neg fun e => h0 ((isFirst_iff _).mp e), if_neg h0, (h.1 k (Nat.lt_of_succ_lt hn) rfl h0).2]

/-- One point keeps the scratch's invariant. -/
theorem inv_step {c : Dev nD} {t : Fin cfg0.N} {Xb : Vec F S512x2048 .bf16} {Acc : Vec F S512x2048 .f32} {C : Vec F S11x8x512 .f32}
    (h : Inv m c t.val Xb Acc C) :
    Inv m c (t.val + 1) (xbAt m c t) (accAt m c t.val t.isLt) ((slot (grid0.coords t)).overlay C (tailAt m c t)) := by
  refine ⟨fun k hk e _ => ?_, fun k hk hlt hle => ?_⟩
  · obtain rfl : k = t.val := by omega
    exact ⟨rfl, rfl⟩
  · by_cases hkt : k = t.val
    · subst hkt
      funext x
      exact (slot (grid0.coords t)).overlay_emb C (tailAt m c t) x
    · rw [← h.2 k hk (by omega) (by omega)]
      funext x
      exact (slot (grid0.coords t)).overlay_of_not_mem C (tailAt m c t) (slot_ne t ⟨k, hk⟩ (by dsimp only; omega) x)

end Cert.FfnRun

end

end
-- ==== Proof.FfFrame.lean ====
module

public import proofs.«01_k».proof.Proof.FfPoint
public import Idealize.ShloMosaic.Lib.Claim

@[expose] public section

set_option maxRecDepth 16384

noncomputable section

namespace Cert.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

/-! ## The buffers a point works on -/

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2048 .f32 := win0_8.stage (cfg0.slots t 8)
abbrev hs0_8 (t : Fin cfg0.N) : (ms0_8 t).IsWhole := hstage0_8 ((cfg0.slots t 8).cast nbuf0_8)
abbrev scM0_0 : Memref sig .tc .vmem S512x2048 .bf16 := Memref.whole cc0_scratch0
abbrev scM0_1 : Memref sig .tc .vmem S512x2048 .f32 := Memref.whole cc0_scratch1
abbrev scM0_2 : Memref sig .tc .vmem S11x8x512 .f32 := Memref.whole cc0_scratch2
abbrev scM0_3 : Memref sig .tc .vmem S520x512 .f32 := Memref.whole cc0_scratch3

/-- The launch's invariant with the four scratch buffers spelled out. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The invariant before position `n`: the carried scratch as `Inv` says, the padded gate tile and the generator at anything. -/
def Phi (c : Dev nD) (n : ℕ) : sProp 𝕄 :=
  iprop(iprop(∃ Xb Acc C, ⌜Inv m c n Xb Acc C⌝ ∗ owns (c : Thread nD τ) scM0_0 fullShare Xb ∗ owns (c : Thread nD τ) scM0_1 fullShare Acc ∗ owns (c : Thread nD τ) scM0_2 fullShare C ∗ (∃ d, owns (c : Thread nD τ) scM0_3 fullShare d)) ∗ (∃ r, prngReg c r))

/-- What the last point of a block row stores: the normalized rows. -/
def rowsOut (c : Dev nD) (t : Fin cfg0.N) : Vec F S512x2048 .f32 :=
  k0_pay2 (iblk m c 0 t) (accAt m c t.val t.isLt) (iblk m c 6 t) (iblk m c 7 t)

/-- The proof data: each input at its block, the output at the block row's normalized rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => rowsOut m c t
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = rowsOut m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after0_7]

/-- The output is idle, and not written back, except at the last point of a block row. -/
theorem idle0_8 : ∀ t : Fin cfg0.N, ¬ isLast (grid0.coords t) → cfg0.idle 8 (grid0.coords t) = true ∧ (cfg0.win 8).flush t = false :=
  (by decide +kernel : ∀ t : Fin grid0.N, _)
theorem live0_8 : ∀ t : Fin cfg0.N, isLast (grid0.coords t) → cfg0.idle 8 (grid0.coords t) = false :=
  (by decide +kernel : ∀ t : Fin grid0.N, _)

/-- What the body leaves in the output's buffer is what the proof data ask. -/
theorem leaves0_8 (c : Dev nD) (t : Fin cfg0.N) (d) :
    owns (c : Thread nD τ) (ms0_8 t) fullShare (outAt (grid0.coords t) (iblk m c 0 t) (accAt m c t.val t.isLt) (iblk m c 6 t) (iblk m c 7 t) ((dats m 0 c).before 8 t d))
      ⊢ (dats m 0 c).leavesExact 8 t := by
  unfold outAt
  by_cases h : isLast (grid0.coords t)
  · rw [if_pos h, show (dats m 0 c).leavesExact 8 t = owns (c : Thread nD τ) (ms0_8 t) fullShare (rowsOut m c t) from by
      unfold Dat.leavesExact; rw [live0_8 t h, after0_8]]
    exact Idealize.SL.BI.Entails.refl _
  · rw [if_neg h, Dat.leavesExact_idle (dats m 0 c) 8 t (idle0_8 t h).1 (idle0_8 t h).2]
    iintro H; iexists _; iexact H

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

/-- The body's run at a point whose scratch satisfies the invariant, its results under their names. -/
theorem body_at (c : Dev nD) (t : Fin cfg0.N) {Xb : Vec F S512x2048 .bf16} {Acc : Vec F S512x2048 .f32} {C : Vec F S11x8x512 .f32}
    (h : Inv m c t.val Xb Acc C) (xi : Vec F S512x2048 .f32) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare xi
      ∗ owns (c : Thread nD τ) scM0_0 fullShare Xb ∗ owns (c : Thread nD τ) scM0_1 fullShare Acc ∗ owns (c : Thread nD τ) scM0_2 fullShare C ∗ (∃ d, owns (c : Thread nD τ) scM0_3 fullShare d)
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t)
        ∗ owns (c : Thread nD τ) (ms0_8 t) fullShare (outAt (grid0.coords t) (iblk m c 0 t) (accAt m c t.val t.isLt) (iblk m c 6 t) (iblk m c 7 t) xi)
        ∗ owns (c : Thread nD τ) scM0_0 fullShare (xbAt m c t) ∗ owns (c : Thread nD τ) scM0_1 fullShare (accAt m c t.val t.isLt)
        ∗ owns (c : Thread nD τ) scM0_2 fullShare ((slot (grid0.coords t)).overlay C (tailAt m c t)) ∗ (∃ d, owns (c : Thread nD τ) scM0_3 fullShare d)) -∗ K ⟨⟩))
    ⊢ wp frame (wpE (defs₀ (F := F)) Variants.none c none) Set.univ (bodyAt0 t) K := by
  have hb := body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _)
    (fun h0 h1 => by have := (isFirst_iff t).mp h0; have := (isLast_iff t).mp h1; omega)
    (iblk m c 0 t) (iblk m c 1 t) (iblk m c 2 t) (iblk m c 3 t) (iblk m c 4 t) (iblk m c 5 t) (iblk m c 6 t) (iblk m c 7 t) xi Xb Acc C Set.univ K
  have ha := accum_eq h
  unfold stepAt at ha
  rw [rowsAt_eq h, prevAt_eq h, ha] at hb
  exact hb

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  simp only [before0_0, before0_1, before0_2, before0_3, before0_4, before0_5, before0_6, before0_7]
  rw [show (dats m 0 c).Φ t.castSucc = Phi m c t.val from rfl]
  unfold Phi
  iintro ⟨⟨⟨%Xb, %Acc, %C, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_at m c t hI ((dats m 0 c).before 8 t d8) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  unfold bodyPost
  rw [show (dats m 0 c).owesAt () t.succ = (dats m 0 c).owesAt () t.castSucc from rfl,
    show (dats m 0 c).Φ t.succ = Phi m c (t.val + 1) from rfl, leaves0_0, leaves0_1, leaves0_2, leaves0_3, leaves0_4, leaves0_5, leaves0_6, leaves0_7]
  unfold Phi
  isplitl [HS0 HS1 HS2 HS3 Hg]
  · isplitl [HS0 HS1 HS2 HS3]
    · iexists _; iexists _; iexists _
      isplitr; swap
      · isplitl [HS0]; · iexact HS0
        isplitl [HS1]; · iexact HS1
        isplitl [HS2]; · iexact HS2
        iexact HS3
      ipureintro; exact inv_step hI
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (leaves0_8 m c t d8)
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch gives the invariant before the first point, -/
theorem hin (c : Dev nD) : Pipeline.ΦA spec0 c ⊢ (dats m 0 c).Φ 0 := by
  rw [show (dats m 0 c).Φ 0 = Phi m c 0 from rfl, PhiA0_eq]
  unfold Phi
  iintro ⟨⟨⟨%Xb, HS0⟩, ⟨%Acc, HS1⟩, ⟨%C, HS2⟩, HS3⟩, Hg⟩
  isplitl [HS0 HS1 HS2 HS3]
  · iexists Xb; iexists Acc; iexists C
    isplitr; swap
    · isplitl [HS0]; · iexact HS0
      isplitl [HS1]; · iexact HS1
      isplitl [HS2]; · iexact HS2
      iexact HS3
    ipureintro; exact inv_zero m c Xb Acc C
  iexact Hg

/-- and takes it back after the last. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA0_eq]
  unfold Phi
  iintro ⟨⟨%Xb, %Acc, %C, %hI, HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexact HS3
  iexact Hg

/-! ## The run -/

set_option backward.isDefEq.respectTransparency.types false in
/-- Every fair execution ends, with the arrays as the proof data say and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.FfnRun

end

end
-- ==== Proof.FfRows.lean ====
module

public import proofs.«01_k».proof.Proof.Rows

/-!
  The mathematics of the feed-forward block over the extended reals, at plain functions: a gate and a value projection, the gate's causal
  convolution along the sequence, the exact gelu, the product of the two, the projection back, and the normalized residual.
-/

@[expose] public section

noncomputable section

namespace Cert.Rows

open Idealize.ShloMosaic

/-- The exact gelu. -/
def gelu (c : EReal) : EReal :=
  Ideal.ofBits FTy.f32 1056964608#32 * c * (1 + Ideal.erf (c * Ideal.ofBits FTy.f32 1060439283#32))

/-- A sequence moved `d` places on, zero before its start. -/
def shifted (g : Fin 8192 → EReal) (d : ℕ) (s : Fin 8192) : EReal := if d ≤ s.val then g ⟨s.val - d, by omega⟩ else 0

/-- The causal convolution of a sequence with three taps and an offset. -/
def causal (g : Fin 8192 → EReal) (w0 w1 w2 b : EReal) (s : Fin 8192) : EReal := b + w2 * g s + w0 * shifted g 2 s + w1 * shifted g 1 s

/-- The hidden activations of a token. -/
def hidden (x : Fin 8192 → Fin 2048 → EReal) (wg wv : Fin 2048 → Fin 5632 → EReal) (cw : Fin 3 → Fin 5632 → EReal) (cb : Fin 5632 → EReal)
    (s : Fin 8192) (f : Fin 5632) : EReal :=
  gelu (causal (fun s => rowMul (x s) wg f) (cw 0 f) (cw 1 f) (cw 2 f) (cb f) s) * rowMul (x s) wv f

/-- The feed-forward block of a token. -/
def ffn (x : Fin 8192 → Fin 2048 → EReal) (wg wv : Fin 2048 → Fin 5632 → EReal) (cw : Fin 3 → Fin 5632 → EReal) (cb : Fin 5632 → EReal)
    (wd : Fin 5632 → Fin 2048 → EReal) (g b : Fin 2048 → EReal) (s : Fin 8192) (j : Fin 2048) : EReal :=
  layerNorm (skipAdd (x s) (rowMul (hidden x wg wv cw cb s) wd)) g b j

end Cert.Rows
end
-- ==== Proof.FfTile.lean ====
module

public import proofs.«01_k».proof.Proof.FfFrame
public import proofs.«01_k».proof.Proof.FfRows
public import Idealize.ShloMosaic.Lib.Pipeline.ValueKit
public import Idealize.ShloMosaic.Lib.Pointwise

/-! What one point of the feed-forward call computes, read at an entry, over the extended reals. -/

@[expose] public section

set_option maxRecDepth 16384

noncomputable section

namespace Cert.FfnValue

open Idealize.ShloMosaic Idealize.ShloMosaic.TcCoe Idealize.SL.Sem
open Cert.FfnIdeal Cert.FfnIdeal.Gen Cert.FfnRun Cert.Rows

variable (xb : Vec Ideal S512x2048 .bf16) (wg wv : Vec Ideal S2048x512 .bf16)

/-- The gate tile. -/
theorem gate_at (r f : Fin 512) : k0_pay6 xb wg (ix2 r f) = rowMul (fun k => xb (ix2 r k)) (fun k f => wg (ix2 k f)) f := by
  pointwise [k0_pay6]
  simp only [rowMul]

/-- The value tile. -/
theorem val_at (r f : Fin 512) : k0_pay7 xb wv (ix2 r f) = rowMul (fun k => xb (ix2 r k)) (fun k f => wv (ix2 k f)) f := by
  pointwise [k0_pay7]
  simp only [rowMul]

/-- The cast rows are the rows. -/
theorem cast_at (x : Vec Ideal S512x2048 .f32) (r : Fin 512) (k : Fin 2048) : k0_pay3 x (ix2 r k) = x (ix2 r k) := by
  pointwise [k0_pay3]

/-- The accumulator starts at zero, -/
theorem zero_at (r : Fin 512) (j : Fin 2048) : k0_pay4 (F := Ideal) (ix2 r j) = 0 := by
  pointwise [k0_pay4]

/-- and so do the gate rows above the array. -/
theorem top_at (e : Fin 8) (f : Fin 512) : k0_pay5 (F := Ideal) (ix3 0 e f) = 0 := by
  pointwise [k0_pay5]

/-- The rows a point hands on are the gate tile's last eight. -/
theorem tail_at (e : Fin 8) (f : Fin 512) : k0_pay10 xb wg (ix3 0 e f)
    = rowMul (fun k => xb (ix2 (⟨504 + e.val, by omega⟩ : Fin 512) k)) (fun k f => wg (ix2 k f)) f := by
  pointwise [k0_pay10, k0_pay6]
  simp only [rowMul]

/-- The padded gate tile: eight rows from before, then the tile. -/
theorem ext_at (prev : Vec Ideal S1x8x512 .f32) (e : Fin 520) (f : Fin 512) : ext prev xb wg (ix2 e f)
    = if h : e.val < 8 then prev (ix3 0 (⟨e.val, h⟩ : Fin 8) f)
      else rowMul (fun k => xb (ix2 (⟨e.val - 8, by omega⟩ : Fin 512) k)) (fun k f => wg (ix2 k f)) f := by
  unfold ext
  split
  · next h =>
    rw [View.canon_cons_of_not_mem]
    · have he : (ix2 e f : S520x512.Idx) = (Rect.unit (s := S520x512) ![0, 0] S8x512.size inb_S520x512_S8x512_0_0).emb (ix2 (⟨e.val, h⟩ : Fin 8) f) := by
        funext a; fin_cases a <;> refine Fin.ext ?_ <;> simp [ix2]
      rw [he, View.canon_cons_emb]
      pointwise [k0_pay8]
    · intro hm
      have hm' : (ix2 e f : S520x512.Idx) ∈ (Rect.unit (s := S520x512) ![8, 0] S512x512.size inb_S520x512_S512x512_8_0).set := hm
      have := (Rect.mem_set_unit.mp hm') (0 : Fin 2)
      simp [ix2] at this
      omega
  · next h =>
    have he : (ix2 e f : S520x512.Idx) = (Rect.unit (s := S520x512) ![8, 0] S512x512.size inb_S520x512_S512x512_8_0).emb (ix2 (⟨e.val - 8, by omega⟩ : Fin 512) f) := by
      funext a; fin_cases a <;> refine Fin.ext ?_ <;> simp [ix2] <;> omega
    rw [he, View.canon_cons_emb]
    pointwise [k0_pay9]
    exact gate_at xb wg _ _

/-- The convolution the point works with, from its gate tile and the rows before it. -/
def convTile (prev : Vec Ideal S1x8x512 .f32) (cw : Vec Ideal S3x512 .f32) (cb : Vec Ideal S1x512 .f32) (r f : Fin 512) : EReal :=
  cb (ix2 0 f) + cw (ix2 2 f) * rowMul (fun k => xb (ix2 r k)) (fun k f => wg (ix2 k f)) f
    + cw (ix2 0 f) * ext prev xb wg (ix2 (⟨6 + r.val, by omega⟩ : Fin 520) f) + cw (ix2 1 f) * ext prev xb wg (ix2 (⟨7 + r.val, by omega⟩ : Fin 520) f)

/-- What a point adds to its accumulator. -/
def termTile (prev : Vec Ideal S1x8x512 .f32) (wd : Vec Ideal S512x2048 .bf16) (cw : Vec Ideal S3x512 .f32) (cb : Vec Ideal S1x512 .f32)
    (r : Fin 512) (j : Fin 2048) : EReal :=
  ∑ f : Fin 512, gelu (convTile xb wg prev cw cb r f) * rowMul (fun k => xb (ix2 r k)) (fun k f => wv (ix2 k f)) f * wd (ix2 f j)

theorem accum_at (prev : Vec Ideal S1x8x512 .f32) (wd : Vec Ideal S512x2048 .bf16) (cw : Vec Ideal S3x512 .f32) (cb : Vec Ideal S1x512 .f32)
    (acc : Vec Ideal S512x2048 .f32) (r : Fin 512) (j : Fin 2048) :
    accum prev xb wg wv wd cw cb acc (ix2 r j) = acc (ix2 r j) + termTile xb wg wv prev wd cw cb r j := by
  unfold accum
  pointwise [k0_pay1, k0_pay11]
  simp only [termTile, convTile, gelu, gate_at, val_at, Ideal.erf_def]

/-- The normalized rows, from the block's input rows and the finished accumulator. -/
theorem out_at (x acc : Vec Ideal S512x2048 .f32) (g b : Vec Ideal S1x2048 .f32) (r : Fin 512) (j : Fin 2048) : k0_pay2 x acc g b (ix2 r j)
    = layerNorm (skipAdd (fun k => x (ix2 r k)) (fun k => acc (ix2 r k))) (fun k => g (ix2 0 k)) (fun k => b (ix2 0 k)) j := by
  pointwise [k0_pay2]
  simp only [layerNorm, skipAdd, mean]

end Cert.FfnValue
end
-- ==== Proof.FfBlocks.lean ====
module

public import proofs.«01_k».proof.Proof.FfTile

/-! The feed-forward call's result array: every token's feed-forward block, of the arrays the call reads. -/

@[expose] public section

set_option maxRecDepth 16384

noncomputable section

namespace Cert.FfnValue

open Idealize.ShloMosaic Idealize.ShloMosaic.TcCoe Idealize.SL.Sem
open Cert.FfnIdeal Cert.FfnIdeal.Gen Cert.FfnRun Cert.Rows

variable (m : (ℓ : Loc nD τ sig) → Buf (Elt Ideal) ℓ) (c : Dev nD)

/-- The blocks at point `t`: the block row's rows, the column tile's columns, the two vectors whole. -/
theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![0, t.val % 11] ∧ win0_5.index t = ![0, t.val % 11]
    ∧ win0_6.index t = ![0, 0] ∧ win0_7.index t = ![0, 0] ∧ win0_8.index t = ![t.val / 11, 0] :=
  (by decide +kernel : ∀ t : Fin grid0.N, _)

/-- The token of row `r` of point `t`'s block row, -/
def rowOf (t : Fin cfg0.N) (r : Fin 512) : Fin 8192 := ⟨512 * (t.val / 11) + r.val, by have := lt_of_point t; omega⟩
/-- and the feature of column `f` of its tile. -/
def colOf (t : Fin cfg0.N) (f : Fin 512) : Fin 5632 := ⟨512 * (t.val % 11) + f.val, by omega⟩

/-- The arrays the call reads, as functions. -/
def X (s : Fin 8192) (k : Fin 2048) : EReal := V m c main_arg0 (ix2 s k)
def Wg (k : Fin 2048) (f : Fin 5632) : EReal := V m c main_v1 (ix2 k f)
def Wv (k : Fin 2048) (f : Fin 5632) : EReal := V m c main_v3 (ix2 k f)
def Wd (f : Fin 5632) (j : Fin 2048) : EReal := V m c main_v4 (ix2 f j)
def Cw (d : Fin 3) (f : Fin 5632) : EReal := V m c main_arg2 (ix2 d f)
def Cb (f : Fin 5632) : EReal := V m c main_v5 (ix2 0 f)
def Gn (j : Fin 2048) : EReal := V m c main_v6 (ix2 0 j)
def Bs (j : Fin 2048) : EReal := V m c main_v7 (ix2 0 j)

theorem b0 (t : Fin cfg0.N) (r : Fin 512) (k : Fin 2048) : iblk m c 0 t (ix2 r k) = X m c (rowOf t r) k := by
  unfold X rowOf; blk_ext [iblk, idx t]
theorem b1 (t : Fin cfg0.N) (k : Fin 2048) (f : Fin 512) : iblk m c 1 t (ix2 k f) = Wg m c k (colOf t f) := by
  unfold Wg colOf; blk_ext [iblk, idx t]
theorem b2 (t : Fin cfg0.N) (k : Fin 2048) (f : Fin 512) : iblk m c 2 t (ix2 k f) = Wv m c k (colOf t f) := by
  unfold Wv colOf; blk_ext [iblk, idx t]
theorem b3 (t : Fin cfg0.N) (f : Fin 512) (j : Fin 2048) : iblk m c 3 t (ix2 f j) = Wd m c (colOf t f) j := by
  unfold Wd colOf; blk_ext [iblk, idx t]
theorem b4 (t : Fin cfg0.N) (d : Fin 3) (f : Fin 512) : iblk m c 4 t (ix2 d f) = Cw m c d (colOf t f) := by
  unfold Cw colOf; blk_ext [iblk, idx t]
theorem b5 (t : Fin cfg0.N) (f : Fin 512) : iblk m c 5 t (ix2 0 f) = Cb m c (colOf t f) := by
  unfold Cb colOf; blk_ext [iblk, idx t]
theorem b6 (t : Fin cfg0.N) (j : Fin 2048) : iblk m c 6 t (ix2 0 j) = Gn m c j := by
  unfold Gn; blk_ext [iblk, idx t]
theorem b7 (t : Fin cfg0.N) (j : Fin 2048) : iblk m c 7 t (ix2 0 j) = Bs m c j := by
  unfold Bs; blk_ext [iblk, idx t]

/-- The cast rows of point `t`. -/
theorem xbAt_at (t : Fin cfg0.N) (r : Fin 512) (k : Fin 2048) : xbAt m c t (ix2 r k) = X m c (rowOf t r) k := by
  unfold xbAt
  rw [cast_at]
  refine (b0 m c (rowStart t) r k).trans ?_
  have e : rowOf (rowStart t) r = rowOf t r := Fin.ext (by show 512 * ((t.val - t.val % 11) / 11) + r.val = 512 * (t.val / 11) + r.val; omega)
  rw [e]

/-- The gate of feature `f` along the sequence. -/
def gateSeq (f : Fin 5632) (s : Fin 8192) : EReal := rowMul (X m c s) (Wg m c) f

theorem gate_pt (t : Fin cfg0.N) (r f : Fin 512) : rowMul (fun k => xbAt m c t (ix2 r k)) (fun k f => iblk m c 1 t (ix2 k f)) f
    = gateSeq m c (colOf t f) (rowOf t r) := by
  unfold gateSeq rowMul
  exact Finset.sum_congr rfl fun k _ => congrArg₂ (· * ·) (xbAt_at m c t r k) (b1 m c t k f)

theorem val_pt (t : Fin cfg0.N) (r f : Fin 512) : rowMul (fun k => xbAt m c t (ix2 r k)) (fun k f => iblk m c 2 t (ix2 k f)) f
    = rowMul (X m c (rowOf t r)) (Wv m c) (colOf t f) := by
  unfold rowMul
  exact Finset.sum_congr rfl fun k _ => congrArg₂ (· * ·) (xbAt_at m c t r k) (b2 m c t k f)

/-- The padded gate tile holds the gate of the token `d` places before. -/
theorem ext_pt (t : Fin cfg0.N) (r f : Fin 512) (e : Fin 520) (d : ℕ) (hd : d ≤ 8) (he : e.val + d = 8 + r.val) :
    ext (prevOf m c t) (xbAt m c t) (iblk m c 1 t) (ix2 e f) = shifted (gateSeq m c (colOf t f)) d (rowOf t r) := by
  refine (ext_at _ _ _ e f).trans ?_
  unfold shifted prevOf
  have hr : (rowOf t r).val = 512 * (t.val / 11) + r.val := rfl
  split
  · next h8 =>
    by_cases ht : t.val < 11
    · rw [if_pos ht, if_neg (by omega)]
      exact top_at _ f
    · rw [if_neg ht, if_pos (by omega)]
      unfold tailAt
      refine (tail_at _ _ _ f).trans ((gate_pt m c _ _ f).trans ?_)
      refine congrArg₂ (gateSeq m c) (Fin.ext ?_) (Fin.ext ?_)
      · show 512 * ((t.val - 11) % 11) + f.val = 512 * (t.val % 11) + f.val
        omega
      · show 512 * ((t.val - 11) / 11) + (504 + e.val) = 512 * (t.val / 11) + r.val - d
        omega
  · next h8 =>
    rw [if_pos (by omega)]
    refine (gate_pt m c t _ f).trans (congrArg (gateSeq m c (colOf t f)) (Fin.ext ?_))
    show 512 * (t.val / 11) + (e.val - 8) = 512 * (t.val / 11) + r.val - d
    omega

/-- What point `t` adds to row `r`, column `j` of its accumulator. -/
def termAt (t : Fin cfg0.N) (r : Fin 512) (j : Fin 2048) : EReal :=
  ∑ f : Fin 512, hidden (X m c) (Wg m c) (Wv m c) (Cw m c) (Cb m c) (rowOf t r) (colOf t f) * Wd m c (colOf t f) j

theorem step_at (t : Fin cfg0.N) (acc : Vec Ideal S512x2048 .f32) (r : Fin 512) (j : Fin 2048) :
    stepAt m c t acc (ix2 r j) = acc (ix2 r j) + termAt m c t r j := by
  unfold stepAt
  refine (accum_at _ _ _ _ _ _ _ acc r j).trans (congrArg (acc (ix2 r j) + ·) ?_)
  unfold termTile termAt
  refine Finset.sum_congr rfl fun f _ => congrArg₂ (· * ·) (congrArg₂ (· * ·) (congrArg gelu ?_) (val_pt m c t r f)) (b3 m c t f j)
  unfold convTile causal
  rw [gate_pt, ext_pt m c t r f _ 2 (by omega) (by show 6 + r.val + 2 = _; omega), ext_pt m c t r f _ 1 (by omega) (by show 7 + r.val + 1 = _; omega)]
  rw [b4, b4, b4, b5]
  rfl

/-- The accumulator's recursion, -/
theorem accAt_eq (t : Fin cfg0.N) : accAt m c t.val t.isLt
    = stepAt m c t (if t.val % 11 = 0 then k0_pay4 (F := Ideal) else accAt m c (t.val - 1) (Nat.lt_of_le_of_lt (Nat.sub_le _ _) t.isLt)) := by
  obtain ⟨n, hn⟩ := t
  cases n with
  | zero => rfl
  | succ k => rfl

/-- and its value when a block row ends. -/
theorem acc_last (t : Fin cfg0.N) (h : t.val % 11 = 10) (r : Fin 512) (j : Fin 2048) :
    accAt m c t.val t.isLt (ix2 r j) = rowMul (hidden (X m c) (Wg m c) (Wv m c) (Cw m c) (Cb m c) (rowOf t r)) (Wd m c) j := by
  have e := Pipeline.eq_sum_fin_of_reset_step_apply_of_flush (N := cfg0.N) (M := EReal) (fun n hn (i : Fin 512 × Fin 2048) => accAt m c n hn (ix2 i.1 i.2)) 11 (fun _ => 0)
    (fun t i => termAt m c t i.1 i.2)
    (fun t h i => by rw [accAt_eq, if_pos h, step_at, zero_at])
    (fun t h i => by rw [accAt_eq, if_neg h, step_at]) t h (r, j)
  refine e.trans ?_
  rw [zero_add]
  unfold rowMul
  refine Fin.sum_mul_add_congr fun s k hl => ?_
  have hr : rowOf ⟨11 * (t.val / 11) + s.val, Pipeline.run_point_lt_of_flush t h s⟩ r = rowOf t r :=
    Fin.ext (by show 512 * ((11 * (t.val / 11) + s.val) / 11) + r.val = 512 * (t.val / 11) + r.val; omega)
  have hc : colOf ⟨11 * (t.val / 11) + s.val, Pipeline.run_point_lt_of_flush t h s⟩ k = ⟨s.val * 512 + k.val, hl⟩ :=
    Fin.ext (by show 512 * ((11 * (t.val / 11) + s.val) % 11) + k.val = s.val * 512 + k.val; omega)
  rw [hr, hc]

/-- The rows a block row's last point stores. -/
theorem rowsOut_at (t : Fin cfg0.N) (h : t.val % 11 = 10) (r : Fin 512) (j : Fin 2048) : rowsOut m c t (ix2 r j)
    = ffn (X m c) (Wg m c) (Wv m c) (Cw m c) (Cb m c) (Wd m c) (Gn m c) (Bs m c) (rowOf t r) j := by
  unfold rowsOut
  refine (out_at _ _ _ _ r j).trans ?_
  have e0 : (fun k => iblk m c 0 t (ix2 r k)) = X m c (rowOf t r) := funext fun k => b0 m c t r k
  have ea : (fun k => accAt m c t.val t.isLt (ix2 r k)) = rowMul (hidden (X m c) (Wg m c) (Wv m c) (Cw m c) (Cb m c) (rowOf t r)) (Wd m c) :=
    funext fun k => acc_last m c t h r k
  have e6 : (fun k => iblk m c 6 t (ix2 0 k)) = Gn m c := funext fun k => b6 m c t k
  have e7 : (fun k => iblk m c 7 t (ix2 0 k)) = Bs m c := funext fun k => b7 m c t k
  rw [e0, ea, e6, e7]
  rfl

/-- The call's result array. -/
def ffOut : Vec Ideal S8192x2048 .f32 := fun y : S8192x2048.Idx =>
  ffn (X m c) (Wg m c) (Wv m c) (Cw m c) (Cb m c) (Wd m c) (Gn m c) (Bs m c) (y 0) (y 1)

/-- After the call its result array holds every token's feed-forward block. -/
theorem final : (dats m 0 c).arrAt 8 cfg0.N = ffOut m c := by
  refine (dats m 0 c).arrAt_eq_of_covers 8 _ (by decide +kernel) fun t hf y => ?_
  blk_simp
  rw [after0_8]
  obtain ⟨r, j, rfl⟩ : ∃ r j, y = ix2 r j := ⟨y 0, y 1, eq_ix2 y⟩
  refine (rowsOut_at m c t ((flush0_8 t).mp hf) r j).trans ?_
  have he : (win0_8.blk t).view.emb (ix2 r j) = ix2 (rowOf t r) j := by
    unfold rowOf; blk_ext [idx t]
  rw [he]
  rfl

end Cert.FfnValue
end
-- ==== Proof.FfRef.lean ====
module

public import proofs.«01_k».proof.Proof.Gen.FfnRefIdeal.Read
public import proofs.«01_k».proof.Proof.FfRows
public import Idealize.ShloMosaic.Lib.Pointwise
public import Idealize.ShloMosaic.Lib.KernelVsHost

/-! The reference of the feed-forward block, read at an entry of its result. -/

@[expose] public section

set_option maxRecDepth 16384

noncomputable section

namespace Cert.FfnRefIdeal.Hand

open Idealize.ShloMosaic Idealize.ShloMosaic.TcCoe
open Cert.FfnRefIdeal Cert.FfnRefIdeal.Gen Cert.FfnRefIdeal.Read Cert.Rows

variable (x : Vec Ideal S8192x2048 .f32) (w : Vec Ideal S2048x11264 .f32) (cw : Vec Ideal S3x5632 .f32) (cb : Vec Ideal S5632 .f32)
  (wd : Vec Ideal S5632x2048 .f32) (g b : Vec Ideal S2048 .f32)

/-- The arguments as functions; the first half of the joined weights makes the gate, the second the value. -/
def xOf (s : Fin 8192) (k : Fin 2048) : EReal := x (ix2 s k)
def gateOf (k : Fin 2048) (f : Fin 5632) : EReal := w (ix2 k (⟨f.val, by omega⟩ : Fin 11264))
def valueOf (k : Fin 2048) (f : Fin 5632) : EReal := w (ix2 k (⟨5632 + f.val, by omega⟩ : Fin 11264))
def tapOf (d : Fin 3) (f : Fin 5632) : EReal := cw (ix2 d f)
def offsetOf (f : Fin 5632) : EReal := cb (ix1 f)
def downOf (f : Fin 5632) (j : Fin 2048) : EReal := wd (ix2 f j)

/-- The joined projection. -/
theorem up_at (s : Fin 8192) (f : Fin 11264) : val_main_v0 (F := Ideal) x w (ix2 s f) = rowMul (xOf x s) (fun k f => w (ix2 k f)) f := by
  rw [val_main_v0_apply]
  refine Finset.sum_congr rfl fun e _ => ?_
  have hl : lidx_main_v0 (ix2 s f) e = ix2 s e := by funext a; fin_cases a <;> rfl
  have hr : ridx_main_v0 (ix2 s f) e = ix2 e f := by funext a; fin_cases a <;> rfl
  rw [hl, hr]
  rfl

/-- Its gate half, -/
theorem gate_at (s : Fin 8192) (f : Fin 5632) : val_main_v1 (F := Ideal) x w (ix2 s f) = rowMul (xOf x s) (gateOf w) f := by
  have hi : idx_main_v1 (ix2 s f) = ix2 s (⟨f.val, by omega⟩ : Fin 11264) := by
    funext a; fin_cases a <;> refine Fin.ext ?_ <;> simp [ix2]
  rw [val_main_v1_apply, hi, up_at]
  rfl

/-- and its value half. -/
theorem value_at (s : Fin 8192) (f : Fin 5632) : val_main_v2 (F := Ideal) x w (ix2 s f) = rowMul (xOf x s) (valueOf w) f := by
  have hi : idx_main_v2 (ix2 s f) = ix2 s (⟨5632 + f.val, by omega⟩ : Fin 11264) := by
    funext a; fin_cases a <;> refine Fin.ext ?_ <;> simp [ix2]
  rw [val_main_v2_apply, hi, up_at]
  rfl

/-- The gate with two zero rows on top, read `d` rows above a token's own row. -/
theorem pad_at (s : Fin 8192) (f : Fin 5632) (e : Fin 8194) (d : ℕ) (he : e.val + d = s.val + 2) :
    val_main_v3 (F := Ideal) x w (ix2 e f) = shifted (fun s => rowMul (xOf x s) (gateOf w) f) d s := by
  unfold val_main_v3 shifted
  split
  · next h =>
    refine (pad_apply_of_inside _ _ _ _ _ _ _ _ (ix2 (⟨s.val - d, by omega⟩ : Fin 8192) f) fun a => ?_).trans (gate_at x w _ f)
    fin_cases a <;> simp [ix2] <;> omega
  · next h =>
    refine (pad_apply_of_not_inside _ _ _ _ _ _ _ _ (0 : Fin 2) ?_).trans ?_
    · simp [ix2]; omega
    · rw [val_main_call0_v0_apply, val_main_c_apply]
      show (((0#32 : BitVec 32).toInt : ℝ) : EReal) = 0
      simp

/-- The reference's convolution. -/
theorem conv_at (s : Fin 8192) (f : Fin 5632) : val_main_v28 (F := Ideal) x w cw cb (ix2 s f)
    = causal (fun s => rowMul (xOf x s) (gateOf w) f) (tapOf cw 0 f) (tapOf cw 1 f) (tapOf cw 2 f) (offsetOf cb f) s := by
  have i0 : idx_main_v4 (idx_main_v5 (idx_main_v7 (idx_main_v8 (ix2 s f)))) = ix2 (0 : Fin 3) f := by
    funext a; fin_cases a <;> refine Fin.ext ?_ <;> simp [ix2] <;> omega
  have i1 : idx_main_v12 (idx_main_v13 (idx_main_v15 (idx_main_v16 (ix2 s f)))) = ix2 (1 : Fin 3) f := by
    funext a; fin_cases a <;> refine Fin.ext ?_ <;> simp [ix2] <;> omega
  have i2 : idx_main_v19 (idx_main_v20 (idx_main_v22 (idx_main_v23 (ix2 s f)))) = ix2 (2 : Fin 3) f := by
    funext a; fin_cases a <;> refine Fin.ext ?_ <;> simp [ix2] <;> omega
  have ib : idx_main_v26 (idx_main_v27 (ix2 s f)) = ix1 f := by funext a; fin_cases a; rfl
  have p0 : idx_main_v6 (ix2 s f) = ix2 (⟨s.val, by omega⟩ : Fin 8194) f := by funext a; fin_cases a <;> refine Fin.ext ?_ <;> simp [ix2]
  have p1 : idx_main_v14 (ix2 s f) = ix2 (⟨1 + s.val, by omega⟩ : Fin 8194) f := by funext a; fin_cases a <;> refine Fin.ext ?_ <;> simp [ix2]
  have p2 : idx_main_v21 (ix2 s f) = ix2 (⟨2 + s.val, by omega⟩ : Fin 8194) f := by funext a; fin_cases a <;> refine Fin.ext ?_ <;> simp [ix2]
  rw [val_main_v28_apply, val_main_v25_apply, val_main_v18_apply, val_main_v11_apply, val_main_v9_apply, val_main_v17_apply, val_main_v24_apply,
    val_main_v8_apply, val_main_v7_apply, val_main_v5_apply, val_main_v4_apply, i0, val_main_v16_apply, val_main_v15_apply, val_main_v13_apply, val_main_v12_apply, i1,
    val_main_v23_apply, val_main_v22_apply, val_main_v20_apply, val_main_v19_apply, i2, val_main_v27_apply, val_main_v26_apply, ib,
    val_main_v6_apply, p0, val_main_v14_apply, p1, val_main_v21_apply, p2,
    pad_at x w s f _ 2 rfl, pad_at x w s f _ 1 (by show 1 + s.val + 1 = _; omega), pad_at x w s f _ 0 (by show 2 + s.val + 0 = _; omega),
    val_main_v10_apply, val_main_cst_apply]
  have h0 : shifted (fun s => rowMul (xOf x s) (gateOf w) f) 0 s = rowMul (xOf x s) (gateOf w) f := by
    unfold shifted; rw [if_pos (Nat.zero_le _)]; rfl
  simp only [Ideal.mulf_def, Ideal.addf_def, Ideal.ofBits_def, Ideal.ofBits_zero_f32, zero_add, h0, causal]
  show tapOf cw 0 f * _ + tapOf cw 1 f * _ + tapOf cw 2 f * _ + offsetOf cb f = _
  abel

/-- The reference's hidden activations. -/
theorem hidden_at (s : Fin 8192) (f : Fin 5632) : val_main_v36 (F := Ideal) x w cw cb (ix2 s f)
    = hidden (xOf x) (gateOf w) (valueOf w) (tapOf cw) (offsetOf cb) s f := by
  rw [val_main_v36_apply, val_main_v35_apply, val_main_v30_apply, val_main_v29_apply, val_main_cst_0_apply, val_main_v34_apply, val_main_v33_apply,
    val_main_v31_apply, val_main_v32_apply, val_main_cst_1_apply, conv_at, value_at]
  simp only [Ideal.mulf_def, Ideal.hostUnary_erfc_def, Ideal.hostNegf_def, Ideal.negf_def, neg_mul, Ideal.erfc_neg, Ideal.ofBits_def, Rows.hidden, gelu]

/-- A token's row before the normalization. -/
def pre (s : Fin 8192) : Fin 2048 → EReal :=
  skipAdd (xOf x s) (rowMul (hidden (xOf x) (gateOf w) (valueOf w) (tapOf cw) (offsetOf cb) s) (downOf wd))

/-- The reference's residual rows. -/
theorem pre_at (s : Fin 8192) (k : Fin 2048) : val_main_v40 (F := Ideal) x w cw cb wd (ix2 s k) = pre x w cw cb wd s k := by
  rw [val_main_v40_apply, val_main_v39_apply, val_main_v38_apply, val_main_cst_2_apply, val_main_v37_apply]
  refine congrArg (_ + ·) (Finset.sum_congr rfl fun e _ => ?_)
  have hl : lidx_main_v37 (ix2 s k) e = ix2 s e := by funext a; fin_cases a <;> rfl
  have hr : ridx_main_v37 (ix2 s k) e = ix2 e k := by funext a; fin_cases a <;> rfl
  rw [hl, hr, hidden_at]
  rfl

/-- The reference's row means. -/
theorem mean_at (s : Fin 8192) (z : Fin 1) : val_main_v44 (F := Ideal) x w cw cb wd (ix2 s z) = mean (pre x w cw cb wd s) := by
  rw [val_main_v44_apply, val_main_v43_apply, val_main_cst_4_apply, val_main_v42_apply, val_main_v41_apply, val_main_cst_3_apply]
  simp only [Ideal.hostDivf_def, Ideal.ofBits_def, Ideal.ofBits_zero_f32, zero_add, mean]
  refine congrArg₂ _ (Finset.sum_congr rfl fun k _ => ?_) rfl
  have hi : idx_main_v41 (idx_main_v42 (ix2 s z)) k = ix2 s k := by funext a; fin_cases a <;> rfl
  rw [hi, pre_at]

/-- The reference's row variances. -/
theorem var_at (s : Fin 8192) (z : Fin 1) : val_main_v51 (F := Ideal) x w cw cb wd (ix2 s z)
    = mean (fun k => (pre x w cw cb wd s k - mean (pre x w cw cb wd s)) * (pre x w cw cb wd s k - mean (pre x w cw cb wd s))) := by
  rw [val_main_v51_apply, val_main_v50_apply, val_main_cst_6_apply, val_main_v49_apply, val_main_v48_apply, val_main_cst_5_apply]
  simp only [Ideal.hostDivf_def, Ideal.ofBits_def, Ideal.ofBits_zero_f32, zero_add]
  refine congrArg₂ _ (Finset.sum_congr rfl fun k _ => ?_) rfl
  have hi : idx_main_v48 (idx_main_v49 (ix2 s z)) k = ix2 s k := by funext a; fin_cases a <;> rfl
  have hm : idx_main_v45 (ix2 s k) = ix2 s (0 : Fin 1) := by funext a; fin_cases a <;> rfl
  rw [hi, val_main_v47_apply, val_main_v46_apply, val_main_v45_apply, hm, mean_at, pre_at]
  rfl

/-- The reference's result, at a token and a feature. -/
theorem result_at (s : Fin 8192) (j : Fin 2048) : val_main_v64 (F := Ideal) x w cw cb wd g b (ix2 s j)
    = ffn (xOf x) (gateOf w) (valueOf w) (tapOf cw) (offsetOf cb) (downOf wd) (fun k => g (ix1 k)) (fun k => b (ix1 k)) s j := by
  have hm : idx_main_v52 (ix2 s j) = ix2 s (0 : Fin 1) := by funext a; fin_cases a <;> rfl
  have hv : idx_main_v57 (ix2 s j) = ix2 s (0 : Fin 1) := by funext a; fin_cases a <;> rfl
  have hg : idx_main_v59 (idx_main_v60 (ix2 s j)) = ix1 j := by funext a; fin_cases a; rfl
  have hb : idx_main_v62 (idx_main_v63 (ix2 s j)) = ix1 j := by funext a; fin_cases a; rfl
  rw [val_main_v64_apply, val_main_v63_apply, val_main_v62_apply, hb, val_main_v61_apply, val_main_v60_apply, val_main_v59_apply, hg, val_main_v58_apply,
    val_main_v57_apply, hv, val_main_v56_apply, val_main_v55_apply, var_at, val_main_v54_apply, val_main_cst_7_apply, val_main_v53_apply,
    val_main_v52_apply, hm, mean_at, pre_at]
  rfl

end Cert.FfnRefIdeal.Hand
end
-- ==== Proof.FfEq.lean ====
module

public import proofs.«01_k».proof.Proof.FfBlocks
public import proofs.«01_k».proof.Proof.FfRef

/-! The feed-forward block: the kernel's result is the reference's. -/

@[expose] public section

set_option maxRecDepth 16384

noncomputable section

namespace Cert.FfnValue

open Idealize.ShloMosaic Idealize.ShloMosaic.TcCoe Idealize.SL.Sem
open Cert.FfnIdeal Cert.FfnIdeal.Gen Cert.FfnRun Cert.Rows

variable (m : (ℓ : Loc nD τ sig) → Buf (Elt Ideal) ℓ) (ρ : Dev nD → PrngReg) (c : Dev nD)

/-! The arrays the call reads, from the program's arguments. -/

theorem Wg_eq (k : Fin 2048) (f : Fin 5632) : Wg m c k f = Cert.FfnRefIdeal.Hand.gateOf (m ((c : Thread nD τ).loc main_arg1)) k f := by
  have e : V m c main_v1 = (truncf .bf16 (extractStridedSlice S2048x5632 ![0, 0] (m ((c : Thread nD τ).loc main_arg1) : Vec Ideal S2048x11264 .f32) slices_S2048x11264_S2048x5632_0_0 : FVec Ideal S2048x5632 .f32) bitsLt_bf16_f32 : FVec Ideal S2048x5632 .bf16) := by
    unfold V; after_results_simp <;> rfl
  unfold Wg
  rw [e]
  pointwise [Cert.FfnRefIdeal.Hand.gateOf]

theorem Wv_eq (k : Fin 2048) (f : Fin 5632) : Wv m c k f = Cert.FfnRefIdeal.Hand.valueOf (m ((c : Thread nD τ).loc main_arg1)) k f := by
  have e : V m c main_v3 = (truncf .bf16 (extractStridedSlice S2048x5632 ![0, 5632] (m ((c : Thread nD τ).loc main_arg1) : Vec Ideal S2048x11264 .f32) slices_S2048x11264_S2048x5632_0_5632 : FVec Ideal S2048x5632 .f32) bitsLt_bf16_f32 : FVec Ideal S2048x5632 .bf16) := by
    unfold V; after_results_simp <;> rfl
  unfold Wv
  rw [e]
  pointwise [Cert.FfnRefIdeal.Hand.valueOf]

theorem Wd_eq (f : Fin 5632) (j : Fin 2048) : Wd m c f j = Cert.FfnRefIdeal.Hand.downOf (m ((c : Thread nD τ).loc main_arg4)) f j := by
  have e : V m c main_v4 = (truncf .bf16 (m ((c : Thread nD τ).loc main_arg4) : FVec Ideal S5632x2048 .f32) bitsLt_bf16_f32 : FVec Ideal S5632x2048 .bf16) := by
    unfold V; after_results_simp <;> rfl
  unfold Wd
  rw [e]
  rfl

theorem Cb_eq (f : Fin 5632) : Cb m c f = Cert.FfnRefIdeal.Hand.offsetOf (m ((c : Thread nD τ).loc main_arg3)) f := by
  have e : V m c main_v5 = shapeCast S1x5632 (m ((c : Thread nD τ).loc main_arg3) : Vec Ideal S5632 .f32) shapeCasts_S5632_S1x5632 := by
    unfold V; after_results_simp <;> rfl
  unfold Cb
  rw [e]
  set_option maxRecDepth 100000 in
  pointwise [Cert.FfnRefIdeal.Hand.offsetOf]

theorem Gn_eq (j : Fin 2048) : Gn m c j = (m ((c : Thread nD τ).loc main_arg5) : Vec Ideal S2048 .f32) (ix1 j) := by
  have e : V m c main_v6 = shapeCast S1x2048 (m ((c : Thread nD τ).loc main_arg5) : Vec Ideal S2048 .f32) shapeCasts_S2048_S1x2048 := by
    unfold V; after_results_simp <;> rfl
  unfold Gn
  rw [e]
  pointwise []

theorem Bs_eq (j : Fin 2048) : Bs m c j = (m ((c : Thread nD τ).loc main_arg6) : Vec Ideal S2048 .f32) (ix1 j) := by
  have e : V m c main_v7 = shapeCast S1x2048 (m ((c : Thread nD τ).loc main_arg6) : Vec Ideal S2048 .f32) shapeCasts_S2048_S1x2048 := by
    unfold V; after_results_simp <;> rfl
  unfold Bs
  rw [e]
  pointwise []

/-- The kernel's result array is the reference's. -/
theorem value_eq : ffOut m c = Cert.FfnRefIdeal.Read.val_main_v64 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  funext y
  obtain ⟨s, j, rfl⟩ : ∃ (s : Fin 8192) (j : Fin 2048), y = ix2 s j := ⟨y 0, y 1, eq_ix2 y⟩
  refine Eq.trans ?_ (Cert.FfnRefIdeal.Hand.result_at _ _ _ _ _ _ _ s j).symm
  have e0 : X m c = Cert.FfnRefIdeal.Hand.xOf (m ((c : Thread nD τ).loc main_arg0)) :=
    funext fun s => funext fun k => congrFun (V_main_arg0 m c) (ix2 s k)
  have e1 : Wg m c = _ := funext fun k => funext fun f => Wg_eq m c k f
  have e2 : Wv m c = _ := funext fun k => funext fun f => Wv_eq m c k f
  have e3 : Cw m c = Cert.FfnRefIdeal.Hand.tapOf (m ((c : Thread nD τ).loc main_arg2)) :=
    funext fun d => funext fun f => congrFun (V_main_arg2 m c) (ix2 d f)
  have e4 : Cb m c = _ := funext fun f => Cb_eq m c f
  have e5 : Wd m c = _ := funext fun f => funext fun j => Wd_eq m c f j
  have e6 : Gn m c = _ := funext fun j => Gn_eq m c j
  have e7 : Bs m c = _ := funext fun j => Bs_eq m c j
  unfold ffOut
  rw [e0, e1, e2, e3, e4, e5, e6, e7]
  rfl

/-- Every execution ends with the result array at `ffOut`. -/
theorem run_value : θ_run defs (onTc (τ := τ) (main (F := Ideal))) ⟨m, fun _ => 0, ρ⟩ (fun r => ∀ c : Dev nD,
      r.2.mem ((c.tc : Thread nD τ).loc main_v8) = ffOut m c) :=
  (θ_run defs _ _).mono (fun _ h c => ((h.1 c).1 8).trans (final m c)) (run_main m ρ)

end Cert.FfnValue
end
-- ==== Proof.FfClaims.lean ====
module

public import proofs.«01_k».proof.Defs
public import proofs.«01_k».proof.Proof.Gen.Ffn
public import proofs.«01_k».proof.Proof.FfEq

/-! The claims about the feed-forward program. -/

@[expose] public section

set_option maxRecDepth 65536

noncomputable section

namespace Cert.FfnEq

open Idealize.ShloMosaic Idealize.SL.Sem

variable {F : FTy → Type} [FloatOps F]

/-- No rule rewrites this kernel, so the program as written and its idealization have the same body table, -/
theorem body_same [Cert.Ffn.Facts] [Cert.FfnIdeal.Facts] : @Cert.Ffn.defs₀ F _ _ = @Cert.FfnIdeal.defs₀ F _ _ := by
  unfold Cert.Ffn.defs₀ Cert.FfnIdeal.defs₀
  refine congrArg Defs.onTc ?_
  funext l a
  match l, a with
  | 0, (t, s) => rfl

/-- and the same definitions. -/
theorem defs_same [Cert.Ffn.Facts] [Cert.FfnIdeal.Facts] : @Cert.Ffn.defs F _ _ = @Cert.FfnIdeal.defs F _ _ := by
  unfold Cert.Ffn.defs Cert.FfnIdeal.defs
  rw [body_same]
  rfl

/-- The kernel over the extended reals terminates and leaves its arguments and the counters as they were. -/
theorem frame_ideal : Cert.quiescent_FfnIdeal := fun m ρ _ => Cert.FfnRun.frame_run m ρ

/-- So does the kernel as written. -/
theorem frame_kernel : Cert.quiescent_Ffn := fun m ρ _ => by
  have e := Cert.FfnRun.frame_run (F := Bits) m ρ
  rw [← defs_same] at e
  exact e

/-- So does the reference. -/
theorem frame_reference : Cert.quiescent_FfnRefIdeal := fun m ρ _ =>
  (θ_run _ _ _).mono (fun r h => ⟨fun c => (h c).2, sem_eq_zero_of_no_sems (by decide) r.2⟩) (Cert.FfnRefIdeal.Value.run m ρ)

/-- Over the extended reals the kernel and the reference end with the same result. -/
theorem algebraic : Cert.algebraic_FfnIdeal_FfnRefIdeal := by
  intro m g m' g' _ hagree
  refine ⟨fun c => Cert.FfnValue.ffOut m c,
    (θ_run _ _ _).mono (fun _ h c => ⟨h.1 c, h.2.1 c⟩) (θ_run_and (Cert.FfnValue.run_value m g) (Cert.FfnRun.frame_run m g)),
    (θ_run _ _ _).mono (fun _ h c => ⟨(h c).1.trans ?_, (h c).2⟩) (Cert.FfnRefIdeal.Value.run m' g')⟩
  rw [Cert.FfnRefIdeal.Read.val_main_v64_eq]
  obtain ⟨e0, e1, e2, e3, e4, e5, e6⟩ := hagree c
  rw [e0, e1, e2, e3, e4, e5, e6]
  exact (Cert.FfnValue.value_eq m c).symm

end Cert.FfnEq
end
-- ==== Proof.lean ====
module

public import proofs.«01_k».proof.Defs
public import proofs.«01_k».proof.Proof.IpClaims
public import proofs.«01_k».proof.Proof.PlClaims
public import proofs.«01_k».proof.Proof.XaClaims
public import proofs.«01_k».proof.Proof.FfClaims
public import proofs.«01_k».proof.Proof.Gen.XAttnRefIdeal.Run
public import proofs.«01_k».proof.Proof.Gen.XAttnRefIdeal.Read
public import proofs.«01_k».proof.Proof.Gen.FfnRefIdeal.Run
public import proofs.«01_k».proof.Proof.Gen.FfnRefIdeal.Read
public import proofs.«01_k».proof.Proof.Gen.XAttn
public import proofs.«01_k».proof.Proof.Gen.XAttn.Skeleton
public import proofs.«01_k».proof.Proof.Gen.XAttn.Launch
public import proofs.«01_k».proof.Proof.Gen.XAttn.Points
public import proofs.«01_k».proof.Proof.Gen.XAttn.Frame
public import proofs.«01_k».proof.Proof.Gen.XAttnIdeal
public import proofs.«01_k».proof.Proof.Gen.XAttnIdeal.Skeleton
public import proofs.«01_k».proof.Proof.Gen.XAttnIdeal.Launch
public import proofs.«01_k».proof.Proof.Gen.XAttnIdeal.Points
public import proofs.«01_k».proof.Proof.Gen.XAttnIdeal.Frame
public import proofs.«01_k».proof.Proof.Gen.XAttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.InProj.Frame
public import proofs.«01_k».proof.Proof.Gen.InProjIdeal.Frame
public import proofs.«01_k».proof.Proof.Gen.InProjRefIdeal.Run
public import proofs.«01_k».proof.Proof.Gen.InProjRefIdeal.Read
public import proofs.«01_k».proof.Proof.Gen.ProjLn.Frame
public import proofs.«01_k».proof.Proof.Gen.ProjLnIdeal.Frame
public import proofs.«01_k».proof.Proof.Gen.ProjLnRefIdeal.Run
public import proofs.«01_k».proof.Proof.Gen.ProjLnRefIdeal.Read
public import Idealize.ShloMosaic.Adequacy
public import Idealize.ShloMosaic.Init

@[expose] public section

noncomputable section

namespace Cert.Proof

open Idealize.ShloMosaic Idealize.SL.Sem

/-- Each of the four programs and their references terminates and leaves its arguments unchanged, and each kernel's results are its reference's. -/
theorem claim : Cert.Claim :=
  ⟨Cert.InProj.Gen.facts, Cert.InProjIdeal.Gen.facts, Cert.InProjRefIdeal.Gen.facts, Cert.ProjLn.Gen.facts, Cert.ProjLnIdeal.Gen.facts, Cert.ProjLnRefIdeal.Gen.facts, Cert.XAttn.Gen.facts, Cert.XAttnIdeal.Gen.facts, Cert.XAttnRefIdeal.Gen.facts, Cert.Ffn.Gen.facts, Cert.FfnIdeal.Gen.facts, Cert.FfnRefIdeal.Gen.facts,
  Cert.InProjEq.frame_kernel, Cert.InProjEq.frame_ideal, Cert.InProjEq.frame_reference,
  Cert.ProjLnEq.frame_kernel, Cert.ProjLnEq.frame_ideal, Cert.ProjLnEq.frame_reference,
  Cert.XAttnEq.frame_kernel, Cert.XAttnEq.frame_ideal, Cert.XAttnEq.frame_reference,
  Cert.FfnEq.frame_kernel, Cert.FfnEq.frame_ideal, Cert.FfnEq.frame_reference,
  trivial, Cert.InProjEq.algebraic, trivial, Cert.ProjLnEq.algebraic, trivial, Cert.XAttnEq.algebraic, trivial, Cert.FfnEq.algebraic⟩

end Cert.Proof

end
